-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indexes_fit [hPre_indexes_fit : Cert.Pre_indexes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_indexes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indexes_fit [hPre_indexes_fit : Cert.Pre_indexes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indexes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Lines (m : (ℓ : Loc Cert.Lines.nD Cert.Lines.τ Cert.Lines.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_indexes_fit [hKernelIdeal : Cert.KernelIdeal.Facts] [hPre_indexes_fit : Cert.Pre_indexes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indexes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indexes_fit [hReferenceIdeal : Cert.ReferenceIdeal.Facts] [hPre_indexes_fit : Cert.Pre_indexes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indexes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Lines [hLines : Cert.Lines.Facts] : Prop :=
  ∀ (m : (ℓ : Loc Cert.Lines.nD Cert.Lines.τ Cert.Lines.sig) → Buf (Elt Bits) ℓ) (g : Dev Cert.Lines.nD → PrngReg), Pre_Lines m →
    θ_run (Cert.Lines.defs (F := Bits)) (onTc (τ := Cert.Lines.τ) (Cert.Lines.main (F := Bits))) ⟨m, fun _ => 0, g⟩ (fun r => (∀ c : Dev Cert.Lines.nD,
      r.2.mem ((c.tc : Thread Cert.Lines.nD Cert.Lines.τ).loc Cert.Lines.main_arg0) = m ((c.tc : Thread Cert.Lines.nD Cert.Lines.τ).loc Cert.Lines.main_arg0)
      ∧ r.2.mem ((c.tc : Thread Cert.Lines.nD Cert.Lines.τ).loc Cert.Lines.main_arg1) = m ((c.tc : Thread Cert.Lines.nD Cert.Lines.τ).loc Cert.Lines.main_arg1)
      ∧ r.2.mem ((c.tc : Thread Cert.Lines.nD Cert.Lines.τ).loc Cert.Lines.main_arg2) = m ((c.tc : Thread Cert.Lines.nD Cert.Lines.τ).loc Cert.Lines.main_arg2)
      ∧ r.2.mem ((c.tc : Thread Cert.Lines.nD Cert.Lines.τ).loc Cert.Lines.main_arg3) = m ((c.tc : Thread Cert.Lines.nD Cert.Lines.τ).loc Cert.Lines.main_arg3)
      ∧ r.2.mem ((c.tc : Thread Cert.Lines.nD Cert.Lines.τ).loc Cert.Lines.main_arg4) = m ((c.tc : Thread Cert.Lines.nD Cert.Lines.τ).loc Cert.Lines.main_arg4)
      ∧ r.2.mem ((c.tc : Thread Cert.Lines.nD Cert.Lines.τ).loc Cert.Lines.main_arg5) = m ((c.tc : Thread Cert.Lines.nD Cert.Lines.τ).loc Cert.Lines.main_arg5))
      ∧ r.2.sem = fun _ => 0)

def preserves_Kernel_KernelIdeal : Prop :=
  True

def algebraic_KernelIdeal_ReferenceIdeal_pre_indexes_fit [hKernelIdeal : Cert.KernelIdeal.Facts] [hReferenceIdeal : Cert.ReferenceIdeal.Facts] [hPre_indexes_fit : Cert.Pre_indexes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indexes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v577)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v577) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Kernel_Lines [hKernel : Cert.Kernel.Facts] [hLines : Cert.Lines.Facts] : Prop :=
  ∀ (m : (ℓ : Loc Cert.Kernel.nD Cert.Kernel.τ Cert.Kernel.sig) → Buf (Elt Bits) ℓ) (g : Dev Cert.Kernel.nD → PrngReg)
    (m' : (ℓ : Loc Cert.Lines.nD Cert.Lines.τ Cert.Lines.sig) → Buf (Elt Bits) ℓ) (g' : Dev Cert.Lines.nD → PrngReg), Pre_Kernel m →
    (∀ c : Dev Cert.Kernel.nD,
      m' ((c.tc : Thread Cert.Lines.nD Cert.Lines.τ).loc Cert.Lines.main_arg0) = m ((c.tc : Thread Cert.Kernel.nD Cert.Kernel.τ).loc Cert.Kernel.main_arg0)
      ∧ m' ((c.tc : Thread Cert.Lines.nD Cert.Lines.τ).loc Cert.Lines.main_arg1) = m ((c.tc : Thread Cert.Kernel.nD Cert.Kernel.τ).loc Cert.Kernel.main_arg1)
      ∧ m' ((c.tc : Thread Cert.Lines.nD Cert.Lines.τ).loc Cert.Lines.main_arg2) = m ((c.tc : Thread Cert.Kernel.nD Cert.Kernel.τ).loc Cert.Kernel.main_arg2)
      ∧ m' ((c.tc : Thread Cert.Lines.nD Cert.Lines.τ).loc Cert.Lines.main_arg3) = m ((c.tc : Thread Cert.Kernel.nD Cert.Kernel.τ).loc Cert.Kernel.main_arg3)
      ∧ m' ((c.tc : Thread Cert.Lines.nD Cert.Lines.τ).loc Cert.Lines.main_arg4) = m ((c.tc : Thread Cert.Kernel.nD Cert.Kernel.τ).loc Cert.Kernel.main_arg4)
      ∧ m' ((c.tc : Thread Cert.Lines.nD Cert.Lines.τ).loc Cert.Lines.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v577)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v577) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Lines.defs (F := Bits)) (onTc (τ := Cert.Lines.τ) (Cert.Lines.main (F := Bits))) ⟨m', fun _ => 0, g'⟩ (fun r => ∀ c : Dev Cert.Lines.nD,
          r.2.mem ((c.tc : Thread Cert.Lines.nD Cert.Lines.τ).loc Cert.Lines.main_v576) = v0 c
          ∧ r.2.mem ((c.tc : Thread Cert.Lines.nD Cert.Lines.τ).loc Cert.Lines.main_arg0) = m' ((c.tc : Thread Cert.Lines.nD Cert.Lines.τ).loc Cert.Lines.main_arg0)
          ∧ r.2.mem ((c.tc : Thread Cert.Lines.nD Cert.Lines.τ).loc Cert.Lines.main_arg1) = m' ((c.tc : Thread Cert.Lines.nD Cert.Lines.τ).loc Cert.Lines.main_arg1)
          ∧ r.2.mem ((c.tc : Thread Cert.Lines.nD Cert.Lines.τ).loc Cert.Lines.main_arg2) = m' ((c.tc : Thread Cert.Lines.nD Cert.Lines.τ).loc Cert.Lines.main_arg2)
          ∧ r.2.mem ((c.tc : Thread Cert.Lines.nD Cert.Lines.τ).loc Cert.Lines.main_arg3) = m' ((c.tc : Thread Cert.Lines.nD Cert.Lines.τ).loc Cert.Lines.main_arg3)
          ∧ r.2.mem ((c.tc : Thread Cert.Lines.nD Cert.Lines.τ).loc Cert.Lines.main_arg4) = m' ((c.tc : Thread Cert.Lines.nD Cert.Lines.τ).loc Cert.Lines.main_arg4)
          ∧ r.2.mem ((c.tc : Thread Cert.Lines.nD Cert.Lines.τ).loc Cert.Lines.main_arg5) = m' ((c.tc : Thread Cert.Lines.nD Cert.Lines.τ).loc Cert.Lines.main_arg5))

def Claim : Prop :=
  ∃ (hKernel : Cert.Kernel.Facts) (hKernelIdeal : Cert.KernelIdeal.Facts) (hReferenceIdeal : Cert.ReferenceIdeal.Facts) (hLines : Cert.Lines.Facts) (hPre_indexes_fit : Cert.Pre_indexes_fit.Facts),
    quiescent_Kernel (hKernel := hKernel)
    ∧ quiescent_KernelIdeal (hKernelIdeal := hKernelIdeal)
    ∧ quiescent_KernelIdeal_pre_indexes_fit (hKernelIdeal := hKernelIdeal) (hPre_indexes_fit := hPre_indexes_fit)
    ∧ quiescent_ReferenceIdeal (hReferenceIdeal := hReferenceIdeal)
    ∧ quiescent_ReferenceIdeal_pre_indexes_fit (hReferenceIdeal := hReferenceIdeal) (hPre_indexes_fit := hPre_indexes_fit)
    ∧ quiescent_Lines (hLines := hLines)
    ∧ preserves_Kernel_KernelIdeal
    ∧ algebraic_KernelIdeal_ReferenceIdeal_pre_indexes_fit (hKernelIdeal := hKernelIdeal) (hReferenceIdeal := hReferenceIdeal) (hPre_indexes_fit := hPre_indexes_fit)
    ∧ bitexact_Kernel_Lines (hKernel := hKernel) (hLines := hLines)
-- ==== Pre_indexes_fit.lean ====
abbrev S16384x3 : Shape := ⟨2, ![16384, 3]⟩
abbrev S16384 : Shape := ⟨1, ![16384]⟩
abbrev S16384x32 : Shape := ⟨2, ![16384, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x3 .f32) (main_arg1 : FVec F S16384x3 .f32) (main_arg2 : FVec F S16384 .f32) (main_arg3 : FVec F S16384 .f32) (main_arg4 : FVec F S16384x32 .f32) (main_arg5 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg5 main_v0
  let main_c_0 : IVec S_ 32 := constantI S_ 32 8192#32
  let main_v2 : IVec S16384 32 := broadcastInDim S16384 ![] bcast_S_S16384 main_c_0
  let main_v3 : IVec S16384 1 := cmpi .slt main_arg5 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x3 : Shape := ⟨2, ![16384, 3]⟩
abbrev S16384 : Shape := ⟨1, ![16384]⟩
abbrev S16384x32 : Shape := ⟨2, ![16384, 32]⟩
abbrev S3 : Shape := ⟨1, ![3]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x1x3 : Shape := ⟨3, ![16384, 1, 3]⟩
abbrev S16384x64x1 : Shape := ⟨3, ![16384, 64, 1]⟩
abbrev S16384x64x3 : Shape := ⟨3, ![16384, 64, 3]⟩
abbrev S1x1x3 : Shape := ⟨3, ![1, 1, 3]⟩
abbrev S16384x1x32 : Shape := ⟨3, ![16384, 1, 32]⟩
abbrev S16384x1x1 : Shape := ⟨3, ![16384, 1, 1]⟩
abbrev S262144x32 : Shape := ⟨2, ![262144, 32]⟩
abbrev S16384x64x32 : Shape := ⟨3, ![16384, 64, 32]⟩
abbrev S1048576 : Shape := ⟨1, ![1048576]⟩
abbrev S1048576x32 : Shape := ⟨2, ![1048576, 32]⟩
abbrev S1048576x1 : Shape := ⟨2, ![1048576, 1]⟩
abbrev S4096x32 : Shape := ⟨2, ![4096, 32]⟩
abbrev S1x64x64x64x32 : Shape := ⟨5, ![1, 64, 64, 64, 32]⟩

abbrev nBuf : Space → Nat
  | .hbm => 907
  | .vmem => 4
  | .smem => 0
  | _ => 0

abbrev hbmTy0_0 (i : Nat) : BufTy := match i % 128 with
  | 0 => ⟨S16384x3, .f32⟩
  | 1 => ⟨S16384x3, .f32⟩
  | 2 => ⟨S16384, .f32⟩
  | 3 => ⟨S16384, .f32⟩
  | 4 => ⟨S16384x32, .f32⟩
  | 5 => ⟨S16384, .i32⟩
  | 6 => ⟨S3, .f32⟩
  | 7 => ⟨S16384, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S16384x1, .f32⟩
  | 16 => ⟨S16384x1, .f32⟩
  | 17 => ⟨S1x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S_, .f32⟩
  | 24 => ⟨S16384, .f32⟩
  | 25 => ⟨S16384, .f32⟩
  | 26 => ⟨S16384x1x3, .f32⟩
  | 27 => ⟨S16384x1x3, .f32⟩
  | 28 => ⟨S16384x64x1, .f32⟩
  | 29 => ⟨S16384x64x3, .f32⟩
  | 30 => ⟨S16384x64x3, .f32⟩
  | 31 => ⟨S16384x64x3, .f32⟩
  | 32 => ⟨S16384x64x3, .f32⟩
  | 33 => ⟨S16384x64x3, .f32⟩
  | 34 => ⟨S_, .f32⟩
  | 35 => ⟨S16384x64x3, .f32⟩
  | 36 => ⟨S16384x64x3, .f32⟩
  | 37 => ⟨S_, .f32⟩
  | 38 => ⟨S16384x64x3, .f32⟩
  | 39 => ⟨S16384x64x3, .f32⟩
  | 40 => ⟨S1x1x3, .f32⟩
  | 41 => ⟨S16384x64x3, .f32⟩
  | 42 => ⟨S16384x64x3, .f32⟩
  | 43 => ⟨S16384x64x3, .f32⟩
  | 44 => ⟨S16384x64x3, .f32⟩
  | 45 => ⟨S16384x64x3, .i32⟩
  | 46 => ⟨S16384x1, .i32⟩
  | 47 => ⟨S16384x1x32, .f32⟩
  | 48 => ⟨S16384x1x1, .f32⟩
  | 49 => ⟨S16384x1x32, .f32⟩
  | 50 => ⟨S16384x1x32, .f32⟩
  | 51 => ⟨S_, .f32⟩
  | 52 => ⟨S262144x32, .f32⟩
  | 53 => ⟨S16384x64x1, .i32⟩
  | 54 => ⟨S16384x64, .i32⟩
  | 55 => ⟨S_, .i32⟩
  | 56 => ⟨S16384x64, .i32⟩
  | 57 => ⟨S16384x64, .i32⟩
  | 58 => ⟨S16384x64x1, .i32⟩
  | 59 => ⟨S16384x64, .i32⟩
  | 60 => ⟨S_, .i32⟩
  | 61 => ⟨S16384x64, .i32⟩
  | 62 => ⟨S16384x64, .i32⟩
  | 63 => ⟨S16384x64x1, .i32⟩
  | 64 => ⟨S16384x64, .i32⟩
  | 65 => ⟨S_, .i32⟩
  | 66 => ⟨S16384x64, .i32⟩
  | 67 => ⟨S16384x64, .i32⟩
  | 68 => ⟨S16384x64x1, .f32⟩
  | 69 => ⟨S16384x64, .f32⟩
  | 70 => ⟨S_, .f32⟩
  | 71 => ⟨S16384x64, .f32⟩
  | 72 => ⟨S16384x64, .f32⟩
  | 73 => ⟨S16384x64x1, .f32⟩
  | 74 => ⟨S16384x64, .f32⟩
  | 75 => ⟨S_, .f32⟩
  | 76 => ⟨S16384x64, .f32⟩
  | 77 => ⟨S16384x64, .f32⟩
  | 78 => ⟨S16384x64x1, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S16384x64, .f32⟩
  | 85 => ⟨S_, .i32⟩
  | 86 => ⟨S16384x64, .i32⟩
  | 87 => ⟨S16384x64, .i1⟩
  | 88 => ⟨S_, .i32⟩
  | 89 => ⟨S16384x64, .i32⟩
  | 90 => ⟨S16384x64, .i1⟩
  | 91 => ⟨S16384x64, .i1⟩
  | 92 => ⟨S_, .i32⟩
  | 93 => ⟨S16384x64, .i32⟩
  | 94 => ⟨S16384x64, .i1⟩
  | 95 => ⟨S16384x64, .i1⟩
  | 96 => ⟨S_, .i32⟩
  | 97 => ⟨S16384x64, .i32⟩
  | 98 => ⟨S16384x64, .i1⟩
  | 99 => ⟨S16384x64, .i1⟩
  | 100 => ⟨S_, .i32⟩
  | 101 => ⟨S16384x64, .i32⟩
  | 102 => ⟨S16384x64, .i1⟩
  | 103 => ⟨S16384x64, .i1⟩
  | 104 => ⟨S_, .i32⟩
  | 105 => ⟨S16384x64, .i32⟩
  | 106 => ⟨S16384x64, .i1⟩
  | 107 => ⟨S16384x64, .i1⟩
  | 108 => ⟨S_, .f32⟩
  | 109 => ⟨S_, .f32⟩
  | 110 => ⟨S16384x64, .f32⟩
  | 111 => ⟨S16384x64, .f32⟩
  | 112 => ⟨S_, .i32⟩
  | 113 => ⟨S_, .i32⟩
  | 114 => ⟨S_, .i32⟩
  | 115 => ⟨S16384x64, .i32⟩
  | 116 => ⟨S16384x64, .i32⟩
  | 117 => ⟨S_, .i32⟩
  | 118 => ⟨S16384x64, .i32⟩
  | 119 => ⟨S16384x64, .i32⟩
  | 120 => ⟨S_, .i32⟩
  | 121 => ⟨S_, .i32⟩
  | 122 => ⟨S_, .i32⟩
  | 123 => ⟨S16384x64, .i32⟩
  | 124 => ⟨S16384x64, .i32⟩
  | 125 => ⟨S_, .i32⟩
  | 126 => ⟨S16384x64, .i32⟩
  | 127 => ⟨S16384x64, .i32⟩
  | _ => ⟨S16384x3, .f32⟩

abbrev hbmTy0_1 (i : Nat) : BufTy := match i % 128 with
  | 0 => ⟨S_, .i32⟩
  | 1 => ⟨S_, .i32⟩
  | 2 => ⟨S_, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S_, .i32⟩
  | 9 => ⟨S16384x1, .i32⟩
  | 10 => ⟨S16384x1, .i32⟩
  | 11 => ⟨S16384x64, .i32⟩
  | 12 => ⟨S16384x64, .i32⟩
  | 13 => ⟨S_, .i32⟩
  | 14 => ⟨S16384x64, .i32⟩
  | 15 => ⟨S16384x64, .i32⟩
  | 16 => ⟨S16384x64, .i32⟩
  | 17 => ⟨S_, .i32⟩
  | 18 => ⟨S16384x64, .i32⟩
  | 19 => ⟨S16384x64, .i32⟩
  | 20 => ⟨S16384x64, .i32⟩
  | 21 => ⟨S16384x64x1, .f32⟩
  | 22 => ⟨S16384x64x32, .f32⟩
  | 23 => ⟨S16384x64x32, .f32⟩
  | 24 => ⟨S16384x64x32, .f32⟩
  | 25 => ⟨S1048576, .i32⟩
  | 26 => ⟨S1048576x32, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S262144x32, .f32⟩
  | 36 => ⟨S16384x64x1, .i32⟩
  | 37 => ⟨S16384x64, .i32⟩
  | 38 => ⟨S_, .i32⟩
  | 39 => ⟨S16384x64, .i32⟩
  | 40 => ⟨S16384x64, .i32⟩
  | 41 => ⟨S16384x64x1, .i32⟩
  | 42 => ⟨S16384x64, .i32⟩
  | 43 => ⟨S_, .i32⟩
  | 44 => ⟨S16384x64, .i32⟩
  | 45 => ⟨S16384x64, .i32⟩
  | 46 => ⟨S16384x64x1, .i32⟩
  | 47 => ⟨S16384x64, .i32⟩
  | 48 => ⟨S_, .i32⟩
  | 49 => ⟨S16384x64, .i32⟩
  | 50 => ⟨S16384x64, .i32⟩
  | 51 => ⟨S16384x64x1, .f32⟩
  | 52 => ⟨S16384x64, .f32⟩
  | 53 => ⟨S16384x64x1, .f32⟩
  | 54 => ⟨S16384x64, .f32⟩
  | 55 => ⟨S_, .f32⟩
  | 56 => ⟨S16384x64, .f32⟩
  | 57 => ⟨S16384x64, .f32⟩
  | 58 => ⟨S16384x64x1, .f32⟩
  | 59 => ⟨S16384x64, .f32⟩
  | 60 => ⟨S_, .f32⟩
  | 61 => ⟨S16384x64, .f32⟩
  | 62 => ⟨S16384x64, .f32⟩
  | 63 => ⟨S16384x64, .f32⟩
  | 64 => ⟨S16384x64, .f32⟩
  | 65 => ⟨S_, .i32⟩
  | 66 => ⟨S16384x64, .i32⟩
  | 67 => ⟨S16384x64, .i1⟩
  | 68 => ⟨S_, .i32⟩
  | 69 => ⟨S16384x64, .i32⟩
  | 70 => ⟨S16384x64, .i1⟩
  | 71 => ⟨S16384x64, .i1⟩
  | 72 => ⟨S_, .i32⟩
  | 73 => ⟨S16384x64, .i32⟩
  | 74 => ⟨S16384x64, .i1⟩
  | 75 => ⟨S16384x64, .i1⟩
  | 76 => ⟨S_, .i32⟩
  | 77 => ⟨S16384x64, .i32⟩
  | 78 => ⟨S16384x64, .i1⟩
  | 79 => ⟨S16384x64, .i1⟩
  | 80 => ⟨S_, .i32⟩
  | 81 => ⟨S16384x64, .i32⟩
  | 82 => ⟨S16384x64, .i1⟩
  | 83 => ⟨S16384x64, .i1⟩
  | 84 => ⟨S_, .i32⟩
  | 85 => ⟨S16384x64, .i32⟩
  | 86 => ⟨S16384x64, .i1⟩
  | 87 => ⟨S16384x64, .i1⟩
  | 88 => ⟨S_, .f32⟩
  | 89 => ⟨S_, .f32⟩
  | 90 => ⟨S16384x64, .f32⟩
  | 91 => ⟨S16384x64, .f32⟩
  | 92 => ⟨S_, .i32⟩
  | 93 => ⟨S_, .i32⟩
  | 94 => ⟨S_, .i32⟩
  | 95 => ⟨S16384x64, .i32⟩
  | 96 => ⟨S16384x64, .i32⟩
  | 97 => ⟨S_, .i32⟩
  | 98 => ⟨S16384x64, .i32⟩
  | 99 => ⟨S16384x64, .i32⟩
  | 100 => ⟨S_, .i32⟩
  | 101 => ⟨S_, .i32⟩
  | 102 => ⟨S_, .i32⟩
  | 103 => ⟨S16384x64, .i32⟩
  | 104 => ⟨S16384x64, .i32⟩
  | 105 => ⟨S_, .i32⟩
  | 106 => ⟨S16384x64, .i32⟩
  | 107 => ⟨S16384x64, .i32⟩
  | 108 => ⟨S_, .i32⟩
  | 109 => ⟨S_, .i32⟩
  | 110 => ⟨S_, .i32⟩
  | 111 => ⟨S16384x64, .i32⟩
  | 112 => ⟨S16384x64, .i32⟩
  | 113 => ⟨S_, .i32⟩
  | 114 => ⟨S16384x64, .i32⟩
  | 115 => ⟨S16384x64, .i32⟩
  | 116 => ⟨S_, .i32⟩
  | 117 => ⟨S16384x1, .i32⟩
  | 118 => ⟨S16384x1, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S16384x64, .i32⟩
  | 125 => ⟨S_, .i32⟩
  | 126 => ⟨S16384x64, .i32⟩
  | 127 => ⟨S16384x64, .i32⟩
  | _ => ⟨S16384x3, .f32⟩

abbrev hbmTy0_2 (i : Nat) : BufTy := match i % 128 with
  | 0 => ⟨S16384x64, .i32⟩
  | 1 => ⟨S16384x64x1, .f32⟩
  | 2 => ⟨S16384x64x32, .f32⟩
  | 3 => ⟨S16384x64x32, .f32⟩
  | 4 => ⟨S16384x64x32, .f32⟩
  | 5 => ⟨S1048576, .i32⟩
  | 6 => ⟨S1048576x32, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S262144x32, .f32⟩
  | 16 => ⟨S16384x64x1, .i32⟩
  | 17 => ⟨S16384x64, .i32⟩
  | 18 => ⟨S_, .i32⟩
  | 19 => ⟨S16384x64, .i32⟩
  | 20 => ⟨S16384x64, .i32⟩
  | 21 => ⟨S16384x64x1, .i32⟩
  | 22 => ⟨S16384x64, .i32⟩
  | 23 => ⟨S_, .i32⟩
  | 24 => ⟨S16384x64, .i32⟩
  | 25 => ⟨S16384x64, .i32⟩
  | 26 => ⟨S16384x64x1, .i32⟩
  | 27 => ⟨S16384x64, .i32⟩
  | 28 => ⟨S_, .i32⟩
  | 29 => ⟨S16384x64, .i32⟩
  | 30 => ⟨S16384x64, .i32⟩
  | 31 => ⟨S16384x64x1, .f32⟩
  | 32 => ⟨S16384x64, .f32⟩
  | 33 => ⟨S_, .f32⟩
  | 34 => ⟨S16384x64, .f32⟩
  | 35 => ⟨S16384x64, .f32⟩
  | 36 => ⟨S16384x64x1, .f32⟩
  | 37 => ⟨S16384x64, .f32⟩
  | 38 => ⟨S16384x64x1, .f32⟩
  | 39 => ⟨S16384x64, .f32⟩
  | 40 => ⟨S_, .f32⟩
  | 41 => ⟨S16384x64, .f32⟩
  | 42 => ⟨S16384x64, .f32⟩
  | 43 => ⟨S16384x64, .f32⟩
  | 44 => ⟨S16384x64, .f32⟩
  | 45 => ⟨S_, .i32⟩
  | 46 => ⟨S16384x64, .i32⟩
  | 47 => ⟨S16384x64, .i1⟩
  | 48 => ⟨S_, .i32⟩
  | 49 => ⟨S16384x64, .i32⟩
  | 50 => ⟨S16384x64, .i1⟩
  | 51 => ⟨S16384x64, .i1⟩
  | 52 => ⟨S_, .i32⟩
  | 53 => ⟨S16384x64, .i32⟩
  | 54 => ⟨S16384x64, .i1⟩
  | 55 => ⟨S16384x64, .i1⟩
  | 56 => ⟨S_, .i32⟩
  | 57 => ⟨S16384x64, .i32⟩
  | 58 => ⟨S16384x64, .i1⟩
  | 59 => ⟨S16384x64, .i1⟩
  | 60 => ⟨S_, .i32⟩
  | 61 => ⟨S16384x64, .i32⟩
  | 62 => ⟨S16384x64, .i1⟩
  | 63 => ⟨S16384x64, .i1⟩
  | 64 => ⟨S_, .i32⟩
  | 65 => ⟨S16384x64, .i32⟩
  | 66 => ⟨S16384x64, .i1⟩
  | 67 => ⟨S16384x64, .i1⟩
  | 68 => ⟨S_, .f32⟩
  | 69 => ⟨S_, .f32⟩
  | 70 => ⟨S16384x64, .f32⟩
  | 71 => ⟨S16384x64, .f32⟩
  | 72 => ⟨S_, .i32⟩
  | 73 => ⟨S_, .i32⟩
  | 74 => ⟨S_, .i32⟩
  | 75 => ⟨S16384x64, .i32⟩
  | 76 => ⟨S16384x64, .i32⟩
  | 77 => ⟨S_, .i32⟩
  | 78 => ⟨S16384x64, .i32⟩
  | 79 => ⟨S16384x64, .i32⟩
  | 80 => ⟨S_, .i32⟩
  | 81 => ⟨S_, .i32⟩
  | 82 => ⟨S_, .i32⟩
  | 83 => ⟨S16384x64, .i32⟩
  | 84 => ⟨S16384x64, .i32⟩
  | 85 => ⟨S_, .i32⟩
  | 86 => ⟨S16384x64, .i32⟩
  | 87 => ⟨S16384x64, .i32⟩
  | 88 => ⟨S_, .i32⟩
  | 89 => ⟨S_, .i32⟩
  | 90 => ⟨S_, .i32⟩
  | 91 => ⟨S16384x64, .i32⟩
  | 92 => ⟨S16384x64, .i32⟩
  | 93 => ⟨S_, .i32⟩
  | 94 => ⟨S16384x64, .i32⟩
  | 95 => ⟨S16384x64, .i32⟩
  | 96 => ⟨S_, .i32⟩
  | 97 => ⟨S16384x1, .i32⟩
  | 98 => ⟨S16384x1, .i32⟩
  | 99 => ⟨S16384x64, .i32⟩
  | 100 => ⟨S16384x64, .i32⟩
  | 101 => ⟨S_, .i32⟩
  | 102 => ⟨S16384x64, .i32⟩
  | 103 => ⟨S16384x64, .i32⟩
  | 104 => ⟨S16384x64, .i32⟩
  | 105 => ⟨S_, .i32⟩
  | 106 => ⟨S16384x64, .i32⟩
  | 107 => ⟨S16384x64, .i32⟩
  | 108 => ⟨S16384x64, .i32⟩
  | 109 => ⟨S16384x64x1, .f32⟩
  | 110 => ⟨S16384x64x32, .f32⟩
  | 111 => ⟨S16384x64x32, .f32⟩
  | 112 => ⟨S16384x64x32, .f32⟩
  | 113 => ⟨S1048576, .i32⟩
  | 114 => ⟨S1048576x32, .f32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S262144x32, .f32⟩
  | 124 => ⟨S16384x64x1, .i32⟩
  | 125 => ⟨S16384x64, .i32⟩
  | 126 => ⟨S_, .i32⟩
  | 127 => ⟨S16384x64, .i32⟩
  | _ => ⟨S16384x3, .f32⟩

abbrev hbmTy0_3 (i : Nat) : BufTy := match i % 128 with
  | 0 => ⟨S16384x64, .i32⟩
  | 1 => ⟨S16384x64x1, .i32⟩
  | 2 => ⟨S16384x64, .i32⟩
  | 3 => ⟨S_, .i32⟩
  | 4 => ⟨S16384x64, .i32⟩
  | 5 => ⟨S16384x64, .i32⟩
  | 6 => ⟨S16384x64x1, .i32⟩
  | 7 => ⟨S16384x64, .i32⟩
  | 8 => ⟨S_, .i32⟩
  | 9 => ⟨S16384x64, .i32⟩
  | 10 => ⟨S16384x64, .i32⟩
  | 11 => ⟨S16384x64x1, .f32⟩
  | 12 => ⟨S16384x64, .f32⟩
  | 13 => ⟨S16384x64x1, .f32⟩
  | 14 => ⟨S16384x64, .f32⟩
  | 15 => ⟨S16384x64x1, .f32⟩
  | 16 => ⟨S16384x64, .f32⟩
  | 17 => ⟨S_, .f32⟩
  | 18 => ⟨S16384x64, .f32⟩
  | 19 => ⟨S16384x64, .f32⟩
  | 20 => ⟨S16384x64, .f32⟩
  | 21 => ⟨S16384x64, .f32⟩
  | 22 => ⟨S_, .i32⟩
  | 23 => ⟨S16384x64, .i32⟩
  | 24 => ⟨S16384x64, .i1⟩
  | 25 => ⟨S_, .i32⟩
  | 26 => ⟨S16384x64, .i32⟩
  | 27 => ⟨S16384x64, .i1⟩
  | 28 => ⟨S16384x64, .i1⟩
  | 29 => ⟨S_, .i32⟩
  | 30 => ⟨S16384x64, .i32⟩
  | 31 => ⟨S16384x64, .i1⟩
  | 32 => ⟨S16384x64, .i1⟩
  | 33 => ⟨S_, .i32⟩
  | 34 => ⟨S16384x64, .i32⟩
  | 35 => ⟨S16384x64, .i1⟩
  | 36 => ⟨S16384x64, .i1⟩
  | 37 => ⟨S_, .i32⟩
  | 38 => ⟨S16384x64, .i32⟩
  | 39 => ⟨S16384x64, .i1⟩
  | 40 => ⟨S16384x64, .i1⟩
  | 41 => ⟨S_, .i32⟩
  | 42 => ⟨S16384x64, .i32⟩
  | 43 => ⟨S16384x64, .i1⟩
  | 44 => ⟨S16384x64, .i1⟩
  | 45 => ⟨S_, .f32⟩
  | 46 => ⟨S_, .f32⟩
  | 47 => ⟨S16384x64, .f32⟩
  | 48 => ⟨S16384x64, .f32⟩
  | 49 => ⟨S_, .i32⟩
  | 50 => ⟨S_, .i32⟩
  | 51 => ⟨S_, .i32⟩
  | 52 => ⟨S16384x64, .i32⟩
  | 53 => ⟨S16384x64, .i32⟩
  | 54 => ⟨S_, .i32⟩
  | 55 => ⟨S16384x64, .i32⟩
  | 56 => ⟨S16384x64, .i32⟩
  | 57 => ⟨S_, .i32⟩
  | 58 => ⟨S_, .i32⟩
  | 59 => ⟨S_, .i32⟩
  | 60 => ⟨S16384x64, .i32⟩
  | 61 => ⟨S16384x64, .i32⟩
  | 62 => ⟨S_, .i32⟩
  | 63 => ⟨S16384x64, .i32⟩
  | 64 => ⟨S16384x64, .i32⟩
  | 65 => ⟨S_, .i32⟩
  | 66 => ⟨S_, .i32⟩
  | 67 => ⟨S_, .i32⟩
  | 68 => ⟨S16384x64, .i32⟩
  | 69 => ⟨S16384x64, .i32⟩
  | 70 => ⟨S_, .i32⟩
  | 71 => ⟨S16384x64, .i32⟩
  | 72 => ⟨S16384x64, .i32⟩
  | 73 => ⟨S_, .i32⟩
  | 74 => ⟨S16384x1, .i32⟩
  | 75 => ⟨S16384x1, .i32⟩
  | 76 => ⟨S16384x64, .i32⟩
  | 77 => ⟨S16384x64, .i32⟩
  | 78 => ⟨S_, .i32⟩
  | 79 => ⟨S16384x64, .i32⟩
  | 80 => ⟨S16384x64, .i32⟩
  | 81 => ⟨S16384x64, .i32⟩
  | 82 => ⟨S_, .i32⟩
  | 83 => ⟨S16384x64, .i32⟩
  | 84 => ⟨S16384x64, .i32⟩
  | 85 => ⟨S16384x64, .i32⟩
  | 86 => ⟨S16384x64x1, .f32⟩
  | 87 => ⟨S16384x64x32, .f32⟩
  | 88 => ⟨S16384x64x32, .f32⟩
  | 89 => ⟨S16384x64x32, .f32⟩
  | 90 => ⟨S1048576, .i32⟩
  | 91 => ⟨S1048576x32, .f32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S1048576x1, .i32⟩
  | 100 => ⟨S262144x32, .f32⟩
  | 101 => ⟨S16384x64x1, .i32⟩
  | 102 => ⟨S16384x64, .i32⟩
  | 103 => ⟨S_, .i32⟩
  | 104 => ⟨S16384x64, .i32⟩
  | 105 => ⟨S16384x64, .i32⟩
  | 106 => ⟨S16384x64x1, .i32⟩
  | 107 => ⟨S16384x64, .i32⟩
  | 108 => ⟨S_, .i32⟩
  | 109 => ⟨S16384x64, .i32⟩
  | 110 => ⟨S16384x64, .i32⟩
  | 111 => ⟨S16384x64x1, .i32⟩
  | 112 => ⟨S16384x64, .i32⟩
  | 113 => ⟨S_, .i32⟩
  | 114 => ⟨S16384x64, .i32⟩
  | 115 => ⟨S16384x64, .i32⟩
  | 116 => ⟨S16384x64x1, .f32⟩
  | 117 => ⟨S16384x64, .f32⟩
  | 118 => ⟨S_, .f32⟩
  | 119 => ⟨S16384x64, .f32⟩
  | 120 => ⟨S16384x64, .f32⟩
  | 121 => ⟨S16384x64x1, .f32⟩
  | 122 => ⟨S16384x64, .f32⟩
  | 123 => ⟨S_, .f32⟩
  | 124 => ⟨S16384x64, .f32⟩
  | 125 => ⟨S16384x64, .f32⟩
  | 126 => ⟨S16384x64x1, .f32⟩
  | 127 => ⟨S16384x64, .f32⟩
  | _ => ⟨S16384x3, .f32⟩

abbrev hbmTy0_4 (i : Nat) : BufTy := match i % 128 with
  | 0 => ⟨S16384x64, .f32⟩
  | 1 => ⟨S16384x64, .f32⟩
  | 2 => ⟨S_, .i32⟩
  | 3 => ⟨S16384x64, .i32⟩
  | 4 => ⟨S16384x64, .i1⟩
  | 5 => ⟨S_, .i32⟩
  | 6 => ⟨S16384x64, .i32⟩
  | 7 => ⟨S16384x64, .i1⟩
  | 8 => ⟨S16384x64, .i1⟩
  | 9 => ⟨S_, .i32⟩
  | 10 => ⟨S16384x64, .i32⟩
  | 11 => ⟨S16384x64, .i1⟩
  | 12 => ⟨S16384x64, .i1⟩
  | 13 => ⟨S_, .i32⟩
  | 14 => ⟨S16384x64, .i32⟩
  | 15 => ⟨S16384x64, .i1⟩
  | 16 => ⟨S16384x64, .i1⟩
  | 17 => ⟨S_, .i32⟩
  | 18 => ⟨S16384x64, .i32⟩
  | 19 => ⟨S16384x64, .i1⟩
  | 20 => ⟨S16384x64, .i1⟩
  | 21 => ⟨S_, .i32⟩
  | 22 => ⟨S16384x64, .i32⟩
  | 23 => ⟨S16384x64, .i1⟩
  | 24 => ⟨S16384x64, .i1⟩
  | 25 => ⟨S_, .f32⟩
  | 26 => ⟨S_, .f32⟩
  | 27 => ⟨S16384x64, .f32⟩
  | 28 => ⟨S16384x64, .f32⟩
  | 29 => ⟨S_, .i32⟩
  | 30 => ⟨S_, .i32⟩
  | 31 => ⟨S_, .i32⟩
  | 32 => ⟨S16384x64, .i32⟩
  | 33 => ⟨S16384x64, .i32⟩
  | 34 => ⟨S_, .i32⟩
  | 35 => ⟨S16384x64, .i32⟩
  | 36 => ⟨S16384x64, .i32⟩
  | 37 => ⟨S_, .i32⟩
  | 38 => ⟨S_, .i32⟩
  | 39 => ⟨S_, .i32⟩
  | 40 => ⟨S16384x64, .i32⟩
  | 41 => ⟨S16384x64, .i32⟩
  | 42 => ⟨S_, .i32⟩
  | 43 => ⟨S16384x64, .i32⟩
  | 44 => ⟨S16384x64, .i32⟩
  | 45 => ⟨S_, .i32⟩
  | 46 => ⟨S_, .i32⟩
  | 47 => ⟨S_, .i32⟩
  | 48 => ⟨S16384x64, .i32⟩
  | 49 => ⟨S16384x64, .i32⟩
  | 50 => ⟨S_, .i32⟩
  | 51 => ⟨S16384x64, .i32⟩
  | 52 => ⟨S16384x64, .i32⟩
  | 53 => ⟨S_, .i32⟩
  | 54 => ⟨S16384x1, .i32⟩
  | 55 => ⟨S16384x1, .i32⟩
  | 56 => ⟨S16384x64, .i32⟩
  | 57 => ⟨S16384x64, .i32⟩
  | 58 => ⟨S_, .i32⟩
  | 59 => ⟨S16384x64, .i32⟩
  | 60 => ⟨S16384x64, .i32⟩
  | 61 => ⟨S16384x64, .i32⟩
  | 62 => ⟨S_, .i32⟩
  | 63 => ⟨S16384x64, .i32⟩
  | 64 => ⟨S16384x64, .i32⟩
  | 65 => ⟨S16384x64, .i32⟩
  | 66 => ⟨S16384x64x1, .f32⟩
  | 67 => ⟨S16384x64x32, .f32⟩
  | 68 => ⟨S16384x64x32, .f32⟩
  | 69 => ⟨S16384x64x32, .f32⟩
  | 70 => ⟨S1048576, .i32⟩
  | 71 => ⟨S1048576x32, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S262144x32, .f32⟩
  | 81 => ⟨S16384x64x1, .i32⟩
  | 82 => ⟨S16384x64, .i32⟩
  | 83 => ⟨S_, .i32⟩
  | 84 => ⟨S16384x64, .i32⟩
  | 85 => ⟨S16384x64, .i32⟩
  | 86 => ⟨S16384x64x1, .i32⟩
  | 87 => ⟨S16384x64, .i32⟩
  | 88 => ⟨S_, .i32⟩
  | 89 => ⟨S16384x64, .i32⟩
  | 90 => ⟨S16384x64, .i32⟩
  | 91 => ⟨S16384x64x1, .i32⟩
  | 92 => ⟨S16384x64, .i32⟩
  | 93 => ⟨S_, .i32⟩
  | 94 => ⟨S16384x64, .i32⟩
  | 95 => ⟨S16384x64, .i32⟩
  | 96 => ⟨S16384x64x1, .f32⟩
  | 97 => ⟨S16384x64, .f32⟩
  | 98 => ⟨S16384x64x1, .f32⟩
  | 99 => ⟨S16384x64, .f32⟩
  | 100 => ⟨S_, .f32⟩
  | 101 => ⟨S16384x64, .f32⟩
  | 102 => ⟨S16384x64, .f32⟩
  | 103 => ⟨S16384x64x1, .f32⟩
  | 104 => ⟨S16384x64, .f32⟩
  | 105 => ⟨S16384x64, .f32⟩
  | 106 => ⟨S16384x64, .f32⟩
  | 107 => ⟨S_, .i32⟩
  | 108 => ⟨S16384x64, .i32⟩
  | 109 => ⟨S16384x64, .i1⟩
  | 110 => ⟨S_, .i32⟩
  | 111 => ⟨S16384x64, .i32⟩
  | 112 => ⟨S16384x64, .i1⟩
  | 113 => ⟨S16384x64, .i1⟩
  | 114 => ⟨S_, .i32⟩
  | 115 => ⟨S16384x64, .i32⟩
  | 116 => ⟨S16384x64, .i1⟩
  | 117 => ⟨S16384x64, .i1⟩
  | 118 => ⟨S_, .i32⟩
  | 119 => ⟨S16384x64, .i32⟩
  | 120 => ⟨S16384x64, .i1⟩
  | 121 => ⟨S16384x64, .i1⟩
  | 122 => ⟨S_, .i32⟩
  | 123 => ⟨S16384x64, .i32⟩
  | 124 => ⟨S16384x64, .i1⟩
  | 125 => ⟨S16384x64, .i1⟩
  | 126 => ⟨S_, .i32⟩
  | 127 => ⟨S16384x64, .i32⟩
  | _ => ⟨S16384x3, .f32⟩

abbrev hbmTy0_5 (i : Nat) : BufTy := match i % 128 with
  | 0 => ⟨S16384x64, .i1⟩
  | 1 => ⟨S16384x64, .i1⟩
  | 2 => ⟨S_, .f32⟩
  | 3 => ⟨S_, .f32⟩
  | 4 => ⟨S16384x64, .f32⟩
  | 5 => ⟨S16384x64, .f32⟩
  | 6 => ⟨S_, .i32⟩
  | 7 => ⟨S_, .i32⟩
  | 8 => ⟨S_, .i32⟩
  | 9 => ⟨S16384x64, .i32⟩
  | 10 => ⟨S16384x64, .i32⟩
  | 11 => ⟨S_, .i32⟩
  | 12 => ⟨S16384x64, .i32⟩
  | 13 => ⟨S16384x64, .i32⟩
  | 14 => ⟨S_, .i32⟩
  | 15 => ⟨S_, .i32⟩
  | 16 => ⟨S_, .i32⟩
  | 17 => ⟨S16384x64, .i32⟩
  | 18 => ⟨S16384x64, .i32⟩
  | 19 => ⟨S_, .i32⟩
  | 20 => ⟨S16384x64, .i32⟩
  | 21 => ⟨S16384x64, .i32⟩
  | 22 => ⟨S_, .i32⟩
  | 23 => ⟨S_, .i32⟩
  | 24 => ⟨S_, .i32⟩
  | 25 => ⟨S16384x64, .i32⟩
  | 26 => ⟨S16384x64, .i32⟩
  | 27 => ⟨S_, .i32⟩
  | 28 => ⟨S16384x64, .i32⟩
  | 29 => ⟨S16384x64, .i32⟩
  | 30 => ⟨S_, .i32⟩
  | 31 => ⟨S16384x1, .i32⟩
  | 32 => ⟨S16384x1, .i32⟩
  | 33 => ⟨S16384x64, .i32⟩
  | 34 => ⟨S16384x64, .i32⟩
  | 35 => ⟨S_, .i32⟩
  | 36 => ⟨S16384x64, .i32⟩
  | 37 => ⟨S16384x64, .i32⟩
  | 38 => ⟨S16384x64, .i32⟩
  | 39 => ⟨S_, .i32⟩
  | 40 => ⟨S16384x64, .i32⟩
  | 41 => ⟨S16384x64, .i32⟩
  | 42 => ⟨S16384x64, .i32⟩
  | 43 => ⟨S16384x64x1, .f32⟩
  | 44 => ⟨S16384x64x32, .f32⟩
  | 45 => ⟨S16384x64x32, .f32⟩
  | 46 => ⟨S16384x64x32, .f32⟩
  | 47 => ⟨S1048576, .i32⟩
  | 48 => ⟨S1048576x32, .f32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S1048576x1, .i32⟩
  | 57 => ⟨S262144x32, .f32⟩
  | 58 => ⟨S16384x64x1, .i32⟩
  | 59 => ⟨S16384x64, .i32⟩
  | 60 => ⟨S_, .i32⟩
  | 61 => ⟨S16384x64, .i32⟩
  | 62 => ⟨S16384x64, .i32⟩
  | 63 => ⟨S16384x64x1, .i32⟩
  | 64 => ⟨S16384x64, .i32⟩
  | 65 => ⟨S_, .i32⟩
  | 66 => ⟨S16384x64, .i32⟩
  | 67 => ⟨S16384x64, .i32⟩
  | 68 => ⟨S16384x64x1, .i32⟩
  | 69 => ⟨S16384x64, .i32⟩
  | 70 => ⟨S_, .i32⟩
  | 71 => ⟨S16384x64, .i32⟩
  | 72 => ⟨S16384x64, .i32⟩
  | 73 => ⟨S16384x64x1, .f32⟩
  | 74 => ⟨S16384x64, .f32⟩
  | 75 => ⟨S_, .f32⟩
  | 76 => ⟨S16384x64, .f32⟩
  | 77 => ⟨S16384x64, .f32⟩
  | 78 => ⟨S16384x64x1, .f32⟩
  | 79 => ⟨S16384x64, .f32⟩
  | 80 => ⟨S16384x64x1, .f32⟩
  | 81 => ⟨S16384x64, .f32⟩
  | 82 => ⟨S16384x64, .f32⟩
  | 83 => ⟨S16384x64, .f32⟩
  | 84 => ⟨S_, .i32⟩
  | 85 => ⟨S16384x64, .i32⟩
  | 86 => ⟨S16384x64, .i1⟩
  | 87 => ⟨S_, .i32⟩
  | 88 => ⟨S16384x64, .i32⟩
  | 89 => ⟨S16384x64, .i1⟩
  | 90 => ⟨S16384x64, .i1⟩
  | 91 => ⟨S_, .i32⟩
  | 92 => ⟨S16384x64, .i32⟩
  | 93 => ⟨S16384x64, .i1⟩
  | 94 => ⟨S16384x64, .i1⟩
  | 95 => ⟨S_, .i32⟩
  | 96 => ⟨S16384x64, .i32⟩
  | 97 => ⟨S16384x64, .i1⟩
  | 98 => ⟨S16384x64, .i1⟩
  | 99 => ⟨S_, .i32⟩
  | 100 => ⟨S16384x64, .i32⟩
  | 101 => ⟨S16384x64, .i1⟩
  | 102 => ⟨S16384x64, .i1⟩
  | 103 => ⟨S_, .i32⟩
  | 104 => ⟨S16384x64, .i32⟩
  | 105 => ⟨S16384x64, .i1⟩
  | 106 => ⟨S16384x64, .i1⟩
  | 107 => ⟨S_, .f32⟩
  | 108 => ⟨S_, .f32⟩
  | 109 => ⟨S16384x64, .f32⟩
  | 110 => ⟨S16384x64, .f32⟩
  | 111 => ⟨S_, .i32⟩
  | 112 => ⟨S_, .i32⟩
  | 113 => ⟨S_, .i32⟩
  | 114 => ⟨S16384x64, .i32⟩
  | 115 => ⟨S16384x64, .i32⟩
  | 116 => ⟨S_, .i32⟩
  | 117 => ⟨S16384x64, .i32⟩
  | 118 => ⟨S16384x64, .i32⟩
  | 119 => ⟨S_, .i32⟩
  | 120 => ⟨S_, .i32⟩
  | 121 => ⟨S_, .i32⟩
  | 122 => ⟨S16384x64, .i32⟩
  | 123 => ⟨S16384x64, .i32⟩
  | 124 => ⟨S_, .i32⟩
  | 125 => ⟨S16384x64, .i32⟩
  | 126 => ⟨S16384x64, .i32⟩
  | 127 => ⟨S_, .i32⟩
  | _ => ⟨S16384x3, .f32⟩

abbrev hbmTy0_6 (i : Nat) : BufTy := match i % 128 with
  | 0 => ⟨S_, .i32⟩
  | 1 => ⟨S_, .i32⟩
  | 2 => ⟨S16384x64, .i32⟩
  | 3 => ⟨S16384x64, .i32⟩
  | 4 => ⟨S_, .i32⟩
  | 5 => ⟨S16384x64, .i32⟩
  | 6 => ⟨S16384x64, .i32⟩
  | 7 => ⟨S_, .i32⟩
  | 8 => ⟨S16384x1, .i32⟩
  | 9 => ⟨S16384x1, .i32⟩
  | 10 => ⟨S16384x64, .i32⟩
  | 11 => ⟨S16384x64, .i32⟩
  | 12 => ⟨S_, .i32⟩
  | 13 => ⟨S16384x64, .i32⟩
  | 14 => ⟨S16384x64, .i32⟩
  | 15 => ⟨S16384x64, .i32⟩
  | 16 => ⟨S_, .i32⟩
  | 17 => ⟨S16384x64, .i32⟩
  | 18 => ⟨S16384x64, .i32⟩
  | 19 => ⟨S16384x64, .i32⟩
  | 20 => ⟨S16384x64x1, .f32⟩
  | 21 => ⟨S16384x64x32, .f32⟩
  | 22 => ⟨S16384x64x32, .f32⟩
  | 23 => ⟨S16384x64x32, .f32⟩
  | 24 => ⟨S1048576, .i32⟩
  | 25 => ⟨S1048576x32, .f32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S1048576x1, .i32⟩
  | 34 => ⟨S262144x32, .f32⟩
  | 35 => ⟨S16384x64x1, .i32⟩
  | 36 => ⟨S16384x64, .i32⟩
  | 37 => ⟨S_, .i32⟩
  | 38 => ⟨S16384x64, .i32⟩
  | 39 => ⟨S16384x64, .i32⟩
  | 40 => ⟨S16384x64x1, .i32⟩
  | 41 => ⟨S16384x64, .i32⟩
  | 42 => ⟨S_, .i32⟩
  | 43 => ⟨S16384x64, .i32⟩
  | 44 => ⟨S16384x64, .i32⟩
  | 45 => ⟨S16384x64x1, .i32⟩
  | 46 => ⟨S16384x64, .i32⟩
  | 47 => ⟨S_, .i32⟩
  | 48 => ⟨S16384x64, .i32⟩
  | 49 => ⟨S16384x64, .i32⟩
  | 50 => ⟨S16384x64x1, .f32⟩
  | 51 => ⟨S16384x64, .f32⟩
  | 52 => ⟨S16384x64x1, .f32⟩
  | 53 => ⟨S16384x64, .f32⟩
  | 54 => ⟨S16384x64x1, .f32⟩
  | 55 => ⟨S16384x64, .f32⟩
  | 56 => ⟨S16384x64, .f32⟩
  | 57 => ⟨S16384x64, .f32⟩
  | 58 => ⟨S_, .i32⟩
  | 59 => ⟨S16384x64, .i32⟩
  | 60 => ⟨S16384x64, .i1⟩
  | 61 => ⟨S_, .i32⟩
  | 62 => ⟨S16384x64, .i32⟩
  | 63 => ⟨S16384x64, .i1⟩
  | 64 => ⟨S16384x64, .i1⟩
  | 65 => ⟨S_, .i32⟩
  | 66 => ⟨S16384x64, .i32⟩
  | 67 => ⟨S16384x64, .i1⟩
  | 68 => ⟨S16384x64, .i1⟩
  | 69 => ⟨S_, .i32⟩
  | 70 => ⟨S16384x64, .i32⟩
  | 71 => ⟨S16384x64, .i1⟩
  | 72 => ⟨S16384x64, .i1⟩
  | 73 => ⟨S_, .i32⟩
  | 74 => ⟨S16384x64, .i32⟩
  | 75 => ⟨S16384x64, .i1⟩
  | 76 => ⟨S16384x64, .i1⟩
  | 77 => ⟨S_, .i32⟩
  | 78 => ⟨S16384x64, .i32⟩
  | 79 => ⟨S16384x64, .i1⟩
  | 80 => ⟨S16384x64, .i1⟩
  | 81 => ⟨S_, .f32⟩
  | 82 => ⟨S_, .f32⟩
  | 83 => ⟨S16384x64, .f32⟩
  | 84 => ⟨S16384x64, .f32⟩
  | 85 => ⟨S_, .i32⟩
  | 86 => ⟨S_, .i32⟩
  | 87 => ⟨S_, .i32⟩
  | 88 => ⟨S16384x64, .i32⟩
  | 89 => ⟨S16384x64, .i32⟩
  | 90 => ⟨S_, .i32⟩
  | 91 => ⟨S16384x64, .i32⟩
  | 92 => ⟨S16384x64, .i32⟩
  | 93 => ⟨S_, .i32⟩
  | 94 => ⟨S_, .i32⟩
  | 95 => ⟨S_, .i32⟩
  | 96 => ⟨S16384x64, .i32⟩
  | 97 => ⟨S16384x64, .i32⟩
  | 98 => ⟨S_, .i32⟩
  | 99 => ⟨S16384x64, .i32⟩
  | 100 => ⟨S16384x64, .i32⟩
  | 101 => ⟨S_, .i32⟩
  | 102 => ⟨S_, .i32⟩
  | 103 => ⟨S_, .i32⟩
  | 104 => ⟨S16384x64, .i32⟩
  | 105 => ⟨S16384x64, .i32⟩
  | 106 => ⟨S_, .i32⟩
  | 107 => ⟨S16384x64, .i32⟩
  | 108 => ⟨S16384x64, .i32⟩
  | 109 => ⟨S_, .i32⟩
  | 110 => ⟨S16384x1, .i32⟩
  | 111 => ⟨S16384x1, .i32⟩
  | 112 => ⟨S16384x64, .i32⟩
  | 113 => ⟨S16384x64, .i32⟩
  | 114 => ⟨S_, .i32⟩
  | 115 => ⟨S16384x64, .i32⟩
  | 116 => ⟨S16384x64, .i32⟩
  | 117 => ⟨S16384x64, .i32⟩
  | 118 => ⟨S_, .i32⟩
  | 119 => ⟨S16384x64, .i32⟩
  | 120 => ⟨S16384x64, .i32⟩
  | 121 => ⟨S16384x64, .i32⟩
  | 122 => ⟨S16384x64x1, .f32⟩
  | 123 => ⟨S16384x64x32, .f32⟩
  | 124 => ⟨S16384x64x32, .f32⟩
  | 125 => ⟨S16384x64x32, .f32⟩
  | 126 => ⟨S1048576, .i32⟩
  | 127 => ⟨S1048576x32, .f32⟩
  | _ => ⟨S16384x3, .f32⟩

abbrev hbmTy0_7 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S262144x32, .f32⟩
  | 9 => ⟨S262144x32, .f32⟩
  | 10 => ⟨S1x64x64x64x32, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16384x3, .f32⟩

abbrev bufTy : (tb : Table) → Fin (tcTables nBuf tb) → BufTy
  | .hbm, ⟨i, _⟩ => hbmTy i
  | .local _ .vmem, ⟨0, _⟩ => ⟨S4096x32, .f32⟩
  | .local _ .vmem, ⟨1, _⟩ => ⟨S4096x32, .f32⟩
  | .local _ .vmem, ⟨2, _⟩ => ⟨S4096x32, .f32⟩
  | .local _ .vmem, ⟨3, _⟩ => ⟨S4096x32, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_call0_v0 : Ref sig .tc := ⟨.hbm, 109, rfl⟩
abbrev main_call0_v1 : Ref sig .tc := ⟨.hbm, 110, rfl⟩
abbrev main_v83 : Ref sig .tc := ⟨.hbm, 111, rfl⟩
abbrev main_c_18 : Ref sig .tc := ⟨.hbm, 112, rfl⟩
abbrev main_c_19 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v84 : Ref sig .tc := ⟨.hbm, 119, rfl⟩
abbrev main_c_20 : Ref sig .tc := ⟨.hbm, 120, rfl⟩
abbrev main_c_21 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v85 : Ref sig .tc := ⟨.hbm, 127, rfl⟩
abbrev main_c_22 : Ref sig .tc := ⟨.hbm, 128, rfl⟩
abbrev main_c_23 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v86 : Ref sig .tc := ⟨.hbm, 135, rfl⟩
abbrev main_c_24 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_25 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_26 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_27 : Ref sig .tc := ⟨.hbm, 155, rfl⟩
abbrev main_v103 : Ref sig .tc := ⟨.hbm, 156, rfl⟩
abbrev main_v104 : Ref sig .tc := ⟨.hbm, 157, rfl⟩
abbrev main_c_28 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_29 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_30 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_c_31 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_32 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_33 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_34 : Ref sig .tc := ⟨.hbm, 193, rfl⟩
abbrev main_v134 : Ref sig .tc := ⟨.hbm, 194, rfl⟩
abbrev main_v135 : Ref sig .tc := ⟨.hbm, 195, rfl⟩
abbrev main_c_35 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_36 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_37 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_38 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_c_39 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_40 : Ref sig .tc := ⟨.hbm, 216, rfl⟩
abbrev main_call4_v0 : Ref sig .tc := ⟨.hbm, 217, rfl⟩
abbrev main_call4_v1 : Ref sig .tc := ⟨.hbm, 218, rfl⟩
abbrev main_v151 : Ref sig .tc := ⟨.hbm, 219, rfl⟩
abbrev main_c_41 : Ref sig .tc := ⟨.hbm, 220, rfl⟩
abbrev main_c_42 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_v152 : Ref sig .tc := ⟨.hbm, 227, rfl⟩
abbrev main_c_43 : Ref sig .tc := ⟨.hbm, 228, rfl⟩
abbrev main_c_44 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v153 : Ref sig .tc := ⟨.hbm, 235, rfl⟩
abbrev main_c_45 : Ref sig .tc := ⟨.hbm, 236, rfl⟩
abbrev main_c_46 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_v154 : Ref sig .tc := ⟨.hbm, 243, rfl⟩
abbrev main_c_47 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_c_48 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_c_49 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_c_50 : Ref sig .tc := ⟨.hbm, 263, rfl⟩
abbrev main_v171 : Ref sig .tc := ⟨.hbm, 264, rfl⟩
abbrev main_v172 : Ref sig .tc := ⟨.hbm, 265, rfl⟩
abbrev main_c_51 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_c_52 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_c_53 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_c_54 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_55 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_cst_56 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_c_57 : Ref sig .tc := ⟨.hbm, 301, rfl⟩
abbrev main_v202 : Ref sig .tc := ⟨.hbm, 302, rfl⟩
abbrev main_v203 : Ref sig .tc := ⟨.hbm, 303, rfl⟩
abbrev main_c_58 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_c_59 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_c_60 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_c_61 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_c_62 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_cst_63 : Ref sig .tc := ⟨.hbm, 324, rfl⟩
abbrev main_call8_v0 : Ref sig .tc := ⟨.hbm, 325, rfl⟩
abbrev main_call8_v1 : Ref sig .tc := ⟨.hbm, 326, rfl⟩
abbrev main_v219 : Ref sig .tc := ⟨.hbm, 327, rfl⟩
abbrev main_c_64 : Ref sig .tc := ⟨.hbm, 328, rfl⟩
abbrev main_c_65 : Ref sig .tc := ⟨.hbm, 329, rfl⟩
abbrev main_call9_v0 : Ref sig .tc := ⟨.hbm, 330, rfl⟩
abbrev main_call9_v1 : Ref sig .tc := ⟨.hbm, 331, rfl⟩
abbrev main_call9_v2 : Ref sig .tc := ⟨.hbm, 332, rfl⟩
abbrev main_call9_v3 : Ref sig .tc := ⟨.hbm, 333, rfl⟩
abbrev main_call9_v4 : Ref sig .tc := ⟨.hbm, 334, rfl⟩
abbrev main_v220 : Ref sig .tc := ⟨.hbm, 335, rfl⟩
abbrev main_c_66 : Ref sig .tc := ⟨.hbm, 336, rfl⟩
abbrev main_c_67 : Ref sig .tc := ⟨.hbm, 337, rfl⟩
abbrev main_call10_v0 : Ref sig .tc := ⟨.hbm, 338, rfl⟩
abbrev main_call10_v1 : Ref sig .tc := ⟨.hbm, 339, rfl⟩
abbrev main_call10_v2 : Ref sig .tc := ⟨.hbm, 340, rfl⟩
abbrev main_call10_v3 : Ref sig .tc := ⟨.hbm, 341, rfl⟩
abbrev main_call10_v4 : Ref sig .tc := ⟨.hbm, 342, rfl⟩
abbrev main_v221 : Ref sig .tc := ⟨.hbm, 343, rfl⟩
abbrev main_c_68 : Ref sig .tc := ⟨.hbm, 344, rfl⟩
abbrev main_c_69 : Ref sig .tc := ⟨.hbm, 345, rfl⟩
abbrev main_call11_v0 : Ref sig .tc := ⟨.hbm, 346, rfl⟩
abbrev main_call11_v1 : Ref sig .tc := ⟨.hbm, 347, rfl⟩
abbrev main_call11_v2 : Ref sig .tc := ⟨.hbm, 348, rfl⟩
abbrev main_call11_v3 : Ref sig .tc := ⟨.hbm, 349, rfl⟩
abbrev main_call11_v4 : Ref sig .tc := ⟨.hbm, 350, rfl⟩
abbrev main_v222 : Ref sig .tc := ⟨.hbm, 351, rfl⟩
abbrev main_c_70 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_c_71 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_c_72 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_c_73 : Ref sig .tc := ⟨.hbm, 371, rfl⟩
abbrev main_v239 : Ref sig .tc := ⟨.hbm, 372, rfl⟩
abbrev main_v240 : Ref sig .tc := ⟨.hbm, 373, rfl⟩
abbrev main_c_74 : Ref sig .tc := ⟨.hbm, 374, rfl⟩
abbrev main_v241 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_c_75 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_c_76 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_c_77 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_cst_78 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_c_79 : Ref sig .tc := ⟨.hbm, 406, rfl⟩
abbrev main_v268 : Ref sig .tc := ⟨.hbm, 407, rfl⟩
abbrev main_v269 : Ref sig .tc := ⟨.hbm, 408, rfl⟩
abbrev main_c_80 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_c_81 : Ref sig .tc := ⟨.hbm, 413, rfl⟩
abbrev main_v273 : Ref sig .tc := ⟨.hbm, 414, rfl⟩
abbrev main_v274 : Ref sig .tc := ⟨.hbm, 415, rfl⟩
abbrev main_v275 : Ref sig .tc := ⟨.hbm, 416, rfl⟩
abbrev main_c_82 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_c_83 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_c_84 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_cst_85 : Ref sig .tc := ⟨.hbm, 429, rfl⟩
abbrev main_call12_v0 : Ref sig .tc := ⟨.hbm, 430, rfl⟩
abbrev main_call12_v1 : Ref sig .tc := ⟨.hbm, 431, rfl⟩
abbrev main_v285 : Ref sig .tc := ⟨.hbm, 432, rfl⟩
abbrev main_c_86 : Ref sig .tc := ⟨.hbm, 433, rfl⟩
abbrev main_c_87 : Ref sig .tc := ⟨.hbm, 434, rfl⟩
abbrev main_call13_v0 : Ref sig .tc := ⟨.hbm, 435, rfl⟩
abbrev main_call13_v1 : Ref sig .tc := ⟨.hbm, 436, rfl⟩
abbrev main_call13_v2 : Ref sig .tc := ⟨.hbm, 437, rfl⟩
abbrev main_call13_v3 : Ref sig .tc := ⟨.hbm, 438, rfl⟩
abbrev main_call13_v4 : Ref sig .tc := ⟨.hbm, 439, rfl⟩
abbrev main_v286 : Ref sig .tc := ⟨.hbm, 440, rfl⟩
abbrev main_c_88 : Ref sig .tc := ⟨.hbm, 441, rfl⟩
abbrev main_c_89 : Ref sig .tc := ⟨.hbm, 442, rfl⟩
abbrev main_call14_v0 : Ref sig .tc := ⟨.hbm, 443, rfl⟩
abbrev main_call14_v1 : Ref sig .tc := ⟨.hbm, 444, rfl⟩
abbrev main_call14_v2 : Ref sig .tc := ⟨.hbm, 445, rfl⟩
abbrev main_call14_v3 : Ref sig .tc := ⟨.hbm, 446, rfl⟩
abbrev main_call14_v4 : Ref sig .tc := ⟨.hbm, 447, rfl⟩
abbrev main_v287 : Ref sig .tc := ⟨.hbm, 448, rfl⟩
abbrev main_c_90 : Ref sig .tc := ⟨.hbm, 449, rfl⟩
abbrev main_c_91 : Ref sig .tc := ⟨.hbm, 450, rfl⟩
abbrev main_call15_v0 : Ref sig .tc := ⟨.hbm, 451, rfl⟩
abbrev main_call15_v1 : Ref sig .tc := ⟨.hbm, 452, rfl⟩
abbrev main_call15_v2 : Ref sig .tc := ⟨.hbm, 453, rfl⟩
abbrev main_call15_v3 : Ref sig .tc := ⟨.hbm, 454, rfl⟩
abbrev main_call15_v4 : Ref sig .tc := ⟨.hbm, 455, rfl⟩
abbrev main_v288 : Ref sig .tc := ⟨.hbm, 456, rfl⟩
abbrev main_c_92 : Ref sig .tc := ⟨.hbm, 457, rfl⟩
abbrev main_v289 : Ref sig .tc := ⟨.hbm, 458, rfl⟩
abbrev main_v290 : Ref sig .tc := ⟨.hbm, 459, rfl⟩
abbrev main_v291 : Ref sig .tc := ⟨.hbm, 460, rfl⟩
abbrev main_v292 : Ref sig .tc := ⟨.hbm, 461, rfl⟩
abbrev main_c_93 : Ref sig .tc := ⟨.hbm, 462, rfl⟩
abbrev main_v293 : Ref sig .tc := ⟨.hbm, 463, rfl⟩
abbrev main_v294 : Ref sig .tc := ⟨.hbm, 464, rfl⟩
abbrev main_v295 : Ref sig .tc := ⟨.hbm, 465, rfl⟩
abbrev main_c_94 : Ref sig .tc := ⟨.hbm, 466, rfl⟩
abbrev main_v296 : Ref sig .tc := ⟨.hbm, 467, rfl⟩
abbrev main_v297 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_v301 : Ref sig .tc := ⟨.hbm, 472, rfl⟩
abbrev main_v302 : Ref sig .tc := ⟨.hbm, 473, rfl⟩
abbrev main_v303 : Ref sig .tc := ⟨.hbm, 474, rfl⟩
abbrev main_v304 : Ref sig .tc := ⟨.hbm, 475, rfl⟩
abbrev main_c_95 : Ref sig .tc := ⟨.hbm, 476, rfl⟩
abbrev main_v305 : Ref sig .tc := ⟨.hbm, 477, rfl⟩
abbrev main_v306 : Ref sig .tc := ⟨.hbm, 478, rfl⟩
abbrev main_c_96 : Ref sig .tc := ⟨.hbm, 479, rfl⟩
abbrev main_v307 : Ref sig .tc := ⟨.hbm, 480, rfl⟩
abbrev main_v308 : Ref sig .tc := ⟨.hbm, 481, rfl⟩
abbrev main_v309 : Ref sig .tc := ⟨.hbm, 482, rfl⟩
abbrev main_v310 : Ref sig .tc := ⟨.hbm, 483, rfl⟩
abbrev main_v311 : Ref sig .tc := ⟨.hbm, 484, rfl⟩
abbrev main_v312 : Ref sig .tc := ⟨.hbm, 485, rfl⟩
abbrev main_v313 : Ref sig .tc := ⟨.hbm, 486, rfl⟩
abbrev main_c_97 : Ref sig .tc := ⟨.hbm, 487, rfl⟩
abbrev main_v314 : Ref sig .tc := ⟨.hbm, 488, rfl⟩
abbrev main_v315 : Ref sig .tc := ⟨.hbm, 489, rfl⟩
abbrev main_v316 : Ref sig .tc := ⟨.hbm, 490, rfl⟩
abbrev main_v317 : Ref sig .tc := ⟨.hbm, 491, rfl⟩
abbrev main_c_98 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_c_99 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_cst_100 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_cst_101 : Ref sig .tc := ⟨.hbm, 507, rfl⟩
abbrev main_v330 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_v334 : Ref sig .tc := ⟨.hbm, 512, rfl⟩
abbrev main_v335 : Ref sig .tc := ⟨.hbm, 513, rfl⟩
abbrev main_c_102 : Ref sig .tc := ⟨.hbm, 514, rfl⟩
abbrev main_v336 : Ref sig .tc := ⟨.hbm, 515, rfl⟩
abbrev main_v337 : Ref sig .tc := ⟨.hbm, 516, rfl⟩
abbrev main_c_103 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_c_104 : Ref sig .tc := ⟨.hbm, 521, rfl⟩
abbrev main_v341 : Ref sig .tc := ⟨.hbm, 522, rfl⟩
abbrev main_v342 : Ref sig .tc := ⟨.hbm, 523, rfl⟩
abbrev main_v343 : Ref sig .tc := ⟨.hbm, 524, rfl⟩
abbrev main_c_105 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_c_106 : Ref sig .tc := ⟨.hbm, 529, rfl⟩
abbrev main_v347 : Ref sig .tc := ⟨.hbm, 530, rfl⟩
abbrev main_v348 : Ref sig .tc := ⟨.hbm, 531, rfl⟩
abbrev main_v349 : Ref sig .tc := ⟨.hbm, 532, rfl⟩
abbrev main_c_107 : Ref sig .tc := ⟨.hbm, 533, rfl⟩
abbrev main_v350 : Ref sig .tc := ⟨.hbm, 534, rfl⟩
abbrev main_v351 : Ref sig .tc := ⟨.hbm, 535, rfl⟩
abbrev main_v352 : Ref sig .tc := ⟨.hbm, 536, rfl⟩
abbrev main_cst_108 : Ref sig .tc := ⟨.hbm, 537, rfl⟩
abbrev main_call16_v0 : Ref sig .tc := ⟨.hbm, 538, rfl⟩
abbrev main_call16_v1 : Ref sig .tc := ⟨.hbm, 539, rfl⟩
abbrev main_v353 : Ref sig .tc := ⟨.hbm, 540, rfl⟩
abbrev main_c_109 : Ref sig .tc := ⟨.hbm, 541, rfl⟩
abbrev main_c_110 : Ref sig .tc := ⟨.hbm, 542, rfl⟩
abbrev main_call17_v0 : Ref sig .tc := ⟨.hbm, 543, rfl⟩
abbrev main_call17_v1 : Ref sig .tc := ⟨.hbm, 544, rfl⟩
abbrev main_call17_v2 : Ref sig .tc := ⟨.hbm, 545, rfl⟩
abbrev main_call17_v3 : Ref sig .tc := ⟨.hbm, 546, rfl⟩
abbrev main_call17_v4 : Ref sig .tc := ⟨.hbm, 547, rfl⟩
abbrev main_v354 : Ref sig .tc := ⟨.hbm, 548, rfl⟩
abbrev main_c_111 : Ref sig .tc := ⟨.hbm, 549, rfl⟩
abbrev main_c_112 : Ref sig .tc := ⟨.hbm, 550, rfl⟩
abbrev main_call18_v0 : Ref sig .tc := ⟨.hbm, 551, rfl⟩
abbrev main_call18_v1 : Ref sig .tc := ⟨.hbm, 552, rfl⟩
abbrev main_call18_v2 : Ref sig .tc := ⟨.hbm, 553, rfl⟩
abbrev main_call18_v3 : Ref sig .tc := ⟨.hbm, 554, rfl⟩
abbrev main_call18_v4 : Ref sig .tc := ⟨.hbm, 555, rfl⟩
abbrev main_v355 : Ref sig .tc := ⟨.hbm, 556, rfl⟩
abbrev main_c_113 : Ref sig .tc := ⟨.hbm, 557, rfl⟩
abbrev main_c_114 : Ref sig .tc := ⟨.hbm, 558, rfl⟩
abbrev main_call19_v0 : Ref sig .tc := ⟨.hbm, 559, rfl⟩
abbrev main_call19_v1 : Ref sig .tc := ⟨.hbm, 560, rfl⟩
abbrev main_call19_v2 : Ref sig .tc := ⟨.hbm, 561, rfl⟩
abbrev main_call19_v3 : Ref sig .tc := ⟨.hbm, 562, rfl⟩
abbrev main_call19_v4 : Ref sig .tc := ⟨.hbm, 563, rfl⟩
abbrev main_v356 : Ref sig .tc := ⟨.hbm, 564, rfl⟩
abbrev main_c_115 : Ref sig .tc := ⟨.hbm, 565, rfl⟩
abbrev main_v357 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_c_116 : Ref sig .tc := ⟨.hbm, 570, rfl⟩
abbrev main_v361 : Ref sig .tc := ⟨.hbm, 571, rfl⟩
abbrev main_v362 : Ref sig .tc := ⟨.hbm, 572, rfl⟩
abbrev main_v363 : Ref sig .tc := ⟨.hbm, 573, rfl⟩
abbrev main_c_117 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_v367 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_v371 : Ref sig .tc := ⟨.hbm, 582, rfl⟩
abbrev main_v372 : Ref sig .tc := ⟨.hbm, 583, rfl⟩
abbrev main_c_118 : Ref sig .tc := ⟨.hbm, 584, rfl⟩
abbrev main_v373 : Ref sig .tc := ⟨.hbm, 585, rfl⟩
abbrev main_v374 : Ref sig .tc := ⟨.hbm, 586, rfl⟩
abbrev main_c_119 : Ref sig .tc := ⟨.hbm, 587, rfl⟩
abbrev main_v375 : Ref sig .tc := ⟨.hbm, 588, rfl⟩
abbrev main_v376 : Ref sig .tc := ⟨.hbm, 589, rfl⟩
abbrev main_v377 : Ref sig .tc := ⟨.hbm, 590, rfl⟩
abbrev main_v378 : Ref sig .tc := ⟨.hbm, 591, rfl⟩
abbrev main_v379 : Ref sig .tc := ⟨.hbm, 592, rfl⟩
abbrev main_v380 : Ref sig .tc := ⟨.hbm, 593, rfl⟩
abbrev main_v381 : Ref sig .tc := ⟨.hbm, 594, rfl⟩
abbrev main_c_120 : Ref sig .tc := ⟨.hbm, 595, rfl⟩
abbrev main_v382 : Ref sig .tc := ⟨.hbm, 596, rfl⟩
abbrev main_v383 : Ref sig .tc := ⟨.hbm, 597, rfl⟩
abbrev main_v384 : Ref sig .tc := ⟨.hbm, 598, rfl⟩
abbrev main_v385 : Ref sig .tc := ⟨.hbm, 599, rfl⟩
abbrev main_c_121 : Ref sig .tc := ⟨.hbm, 600, rfl⟩
abbrev main_v386 : Ref sig .tc := ⟨.hbm, 601, rfl⟩
abbrev main_v387 : Ref sig .tc := ⟨.hbm, 602, rfl⟩
abbrev main_v388 : Ref sig .tc := ⟨.hbm, 603, rfl⟩
abbrev main_v389 : Ref sig .tc := ⟨.hbm, 604, rfl⟩
abbrev main_c_122 : Ref sig .tc := ⟨.hbm, 605, rfl⟩
abbrev main_v390 : Ref sig .tc := ⟨.hbm, 606, rfl⟩
abbrev main_v391 : Ref sig .tc := ⟨.hbm, 607, rfl⟩
abbrev main_v392 : Ref sig .tc := ⟨.hbm, 608, rfl⟩
abbrev main_v393 : Ref sig .tc := ⟨.hbm, 609, rfl⟩
abbrev main_v394 : Ref sig .tc := ⟨.hbm, 610, rfl⟩
abbrev main_v395 : Ref sig .tc := ⟨.hbm, 611, rfl⟩
abbrev main_cst_123 : Ref sig .tc := ⟨.hbm, 612, rfl⟩
abbrev main_v396 : Ref sig .tc := ⟨.hbm, 613, rfl⟩
abbrev main_v397 : Ref sig .tc := ⟨.hbm, 614, rfl⟩
abbrev main_v398 : Ref sig .tc := ⟨.hbm, 615, rfl⟩
abbrev main_v399 : Ref sig .tc := ⟨.hbm, 616, rfl⟩
abbrev main_v400 : Ref sig .tc := ⟨.hbm, 617, rfl⟩
abbrev main_v401 : Ref sig .tc := ⟨.hbm, 618, rfl⟩
abbrev main_c_124 : Ref sig .tc := ⟨.hbm, 619, rfl⟩
abbrev main_v402 : Ref sig .tc := ⟨.hbm, 620, rfl⟩
abbrev main_v403 : Ref sig .tc := ⟨.hbm, 621, rfl⟩
abbrev main_c_125 : Ref sig .tc := ⟨.hbm, 622, rfl⟩
abbrev main_v404 : Ref sig .tc := ⟨.hbm, 623, rfl⟩
abbrev main_v405 : Ref sig .tc := ⟨.hbm, 624, rfl⟩
abbrev main_v406 : Ref sig .tc := ⟨.hbm, 625, rfl⟩
abbrev main_c_126 : Ref sig .tc := ⟨.hbm, 626, rfl⟩
abbrev main_v407 : Ref sig .tc := ⟨.hbm, 627, rfl⟩
abbrev main_v408 : Ref sig .tc := ⟨.hbm, 628, rfl⟩
abbrev main_v409 : Ref sig .tc := ⟨.hbm, 629, rfl⟩
abbrev main_c_127 : Ref sig .tc := ⟨.hbm, 630, rfl⟩
abbrev main_v410 : Ref sig .tc := ⟨.hbm, 631, rfl⟩
abbrev main_v411 : Ref sig .tc := ⟨.hbm, 632, rfl⟩
abbrev main_v412 : Ref sig .tc := ⟨.hbm, 633, rfl⟩
abbrev main_c_128 : Ref sig .tc := ⟨.hbm, 634, rfl⟩
abbrev main_v413 : Ref sig .tc := ⟨.hbm, 635, rfl⟩
abbrev main_v414 : Ref sig .tc := ⟨.hbm, 636, rfl⟩
abbrev main_v415 : Ref sig .tc := ⟨.hbm, 637, rfl⟩
abbrev main_c_129 : Ref sig .tc := ⟨.hbm, 638, rfl⟩
abbrev main_v416 : Ref sig .tc := ⟨.hbm, 639, rfl⟩
abbrev main_v417 : Ref sig .tc := ⟨.hbm, 640, rfl⟩
abbrev main_v418 : Ref sig .tc := ⟨.hbm, 641, rfl⟩
abbrev main_cst_130 : Ref sig .tc := ⟨.hbm, 642, rfl⟩
abbrev main_call20_v0 : Ref sig .tc := ⟨.hbm, 643, rfl⟩
abbrev main_call20_v1 : Ref sig .tc := ⟨.hbm, 644, rfl⟩
abbrev main_v419 : Ref sig .tc := ⟨.hbm, 645, rfl⟩
abbrev main_c_131 : Ref sig .tc := ⟨.hbm, 646, rfl⟩
abbrev main_c_132 : Ref sig .tc := ⟨.hbm, 647, rfl⟩
abbrev main_call21_v0 : Ref sig .tc := ⟨.hbm, 648, rfl⟩
abbrev main_call21_v1 : Ref sig .tc := ⟨.hbm, 649, rfl⟩
abbrev main_call21_v2 : Ref sig .tc := ⟨.hbm, 650, rfl⟩
abbrev main_call21_v3 : Ref sig .tc := ⟨.hbm, 651, rfl⟩
abbrev main_call21_v4 : Ref sig .tc := ⟨.hbm, 652, rfl⟩
abbrev main_v420 : Ref sig .tc := ⟨.hbm, 653, rfl⟩
abbrev main_c_133 : Ref sig .tc := ⟨.hbm, 654, rfl⟩
abbrev main_c_134 : Ref sig .tc := ⟨.hbm, 655, rfl⟩
abbrev main_call22_v0 : Ref sig .tc := ⟨.hbm, 656, rfl⟩
abbrev main_call22_v1 : Ref sig .tc := ⟨.hbm, 657, rfl⟩
abbrev main_call22_v2 : Ref sig .tc := ⟨.hbm, 658, rfl⟩
abbrev main_call22_v3 : Ref sig .tc := ⟨.hbm, 659, rfl⟩
abbrev main_call22_v4 : Ref sig .tc := ⟨.hbm, 660, rfl⟩
abbrev main_v421 : Ref sig .tc := ⟨.hbm, 661, rfl⟩
abbrev main_c_135 : Ref sig .tc := ⟨.hbm, 662, rfl⟩
abbrev main_c_136 : Ref sig .tc := ⟨.hbm, 663, rfl⟩
abbrev main_call23_v0 : Ref sig .tc := ⟨.hbm, 664, rfl⟩
abbrev main_call23_v1 : Ref sig .tc := ⟨.hbm, 665, rfl⟩
abbrev main_call23_v2 : Ref sig .tc := ⟨.hbm, 666, rfl⟩
abbrev main_call23_v3 : Ref sig .tc := ⟨.hbm, 667, rfl⟩
abbrev main_call23_v4 : Ref sig .tc := ⟨.hbm, 668, rfl⟩
abbrev main_v422 : Ref sig .tc := ⟨.hbm, 669, rfl⟩
abbrev main_c_137 : Ref sig .tc := ⟨.hbm, 670, rfl⟩
abbrev main_v423 : Ref sig .tc := ⟨.hbm, 671, rfl⟩
abbrev main_v424 : Ref sig .tc := ⟨.hbm, 672, rfl⟩
abbrev main_v425 : Ref sig .tc := ⟨.hbm, 673, rfl⟩
abbrev main_v426 : Ref sig .tc := ⟨.hbm, 674, rfl⟩
abbrev main_c_138 : Ref sig .tc := ⟨.hbm, 675, rfl⟩
abbrev main_v427 : Ref sig .tc := ⟨.hbm, 676, rfl⟩
abbrev main_v428 : Ref sig .tc := ⟨.hbm, 677, rfl⟩
abbrev main_v429 : Ref sig .tc := ⟨.hbm, 678, rfl⟩
abbrev main_c_139 : Ref sig .tc := ⟨.hbm, 679, rfl⟩
abbrev main_v430 : Ref sig .tc := ⟨.hbm, 680, rfl⟩
abbrev main_v431 : Ref sig .tc := ⟨.hbm, 681, rfl⟩
abbrev main_v432 : Ref sig .tc := ⟨.hbm, 682, rfl⟩
abbrev main_v433 : Ref sig .tc := ⟨.hbm, 683, rfl⟩
abbrev main_v434 : Ref sig .tc := ⟨.hbm, 684, rfl⟩
abbrev main_v435 : Ref sig .tc := ⟨.hbm, 685, rfl⟩
abbrev main_v436 : Ref sig .tc := ⟨.hbm, 686, rfl⟩
abbrev main_v437 : Ref sig .tc := ⟨.hbm, 687, rfl⟩
abbrev main_v438 : Ref sig .tc := ⟨.hbm, 688, rfl⟩
abbrev main_c_140 : Ref sig .tc := ⟨.hbm, 689, rfl⟩
abbrev main_v439 : Ref sig .tc := ⟨.hbm, 690, rfl⟩
abbrev main_v440 : Ref sig .tc := ⟨.hbm, 691, rfl⟩
abbrev main_c_141 : Ref sig .tc := ⟨.hbm, 692, rfl⟩
abbrev main_v441 : Ref sig .tc := ⟨.hbm, 693, rfl⟩
abbrev main_v442 : Ref sig .tc := ⟨.hbm, 694, rfl⟩
abbrev main_v443 : Ref sig .tc := ⟨.hbm, 695, rfl⟩
abbrev main_v444 : Ref sig .tc := ⟨.hbm, 696, rfl⟩
abbrev main_v445 : Ref sig .tc := ⟨.hbm, 697, rfl⟩
abbrev main_v446 : Ref sig .tc := ⟨.hbm, 698, rfl⟩
abbrev main_v447 : Ref sig .tc := ⟨.hbm, 699, rfl⟩
abbrev main_c_142 : Ref sig .tc := ⟨.hbm, 700, rfl⟩
abbrev main_v448 : Ref sig .tc := ⟨.hbm, 701, rfl⟩
abbrev main_v449 : Ref sig .tc := ⟨.hbm, 702, rfl⟩
abbrev main_v450 : Ref sig .tc := ⟨.hbm, 703, rfl⟩
abbrev main_v451 : Ref sig .tc := ⟨.hbm, 704, rfl⟩
abbrev main_c_143 : Ref sig .tc := ⟨.hbm, 705, rfl⟩
abbrev main_v452 : Ref sig .tc := ⟨.hbm, 706, rfl⟩
abbrev main_v453 : Ref sig .tc := ⟨.hbm, 707, rfl⟩
abbrev main_v454 : Ref sig .tc := ⟨.hbm, 708, rfl⟩
abbrev main_v455 : Ref sig .tc := ⟨.hbm, 709, rfl⟩
abbrev main_c_144 : Ref sig .tc := ⟨.hbm, 710, rfl⟩
abbrev main_v456 : Ref sig .tc := ⟨.hbm, 711, rfl⟩
abbrev main_v457 : Ref sig .tc := ⟨.hbm, 712, rfl⟩
abbrev main_v458 : Ref sig .tc := ⟨.hbm, 713, rfl⟩
abbrev main_v459 : Ref sig .tc := ⟨.hbm, 714, rfl⟩
abbrev main_cst_145 : Ref sig .tc := ⟨.hbm, 715, rfl⟩
abbrev main_v460 : Ref sig .tc := ⟨.hbm, 716, rfl⟩
abbrev main_v461 : Ref sig .tc := ⟨.hbm, 717, rfl⟩
abbrev main_v462 : Ref sig .tc := ⟨.hbm, 718, rfl⟩
abbrev main_v463 : Ref sig .tc := ⟨.hbm, 719, rfl⟩
abbrev main_v464 : Ref sig .tc := ⟨.hbm, 720, rfl⟩
abbrev main_v465 : Ref sig .tc := ⟨.hbm, 721, rfl⟩
abbrev main_v466 : Ref sig .tc := ⟨.hbm, 722, rfl⟩
abbrev main_v467 : Ref sig .tc := ⟨.hbm, 723, rfl⟩
abbrev main_c_146 : Ref sig .tc := ⟨.hbm, 724, rfl⟩
abbrev main_v468 : Ref sig .tc := ⟨.hbm, 725, rfl⟩
abbrev main_v469 : Ref sig .tc := ⟨.hbm, 726, rfl⟩
abbrev main_c_147 : Ref sig .tc := ⟨.hbm, 727, rfl⟩
abbrev main_v470 : Ref sig .tc := ⟨.hbm, 728, rfl⟩
abbrev main_v471 : Ref sig .tc := ⟨.hbm, 729, rfl⟩
abbrev main_v472 : Ref sig .tc := ⟨.hbm, 730, rfl⟩
abbrev main_c_148 : Ref sig .tc := ⟨.hbm, 731, rfl⟩
abbrev main_v473 : Ref sig .tc := ⟨.hbm, 732, rfl⟩
abbrev main_v474 : Ref sig .tc := ⟨.hbm, 733, rfl⟩
abbrev main_v475 : Ref sig .tc := ⟨.hbm, 734, rfl⟩
abbrev main_c_149 : Ref sig .tc := ⟨.hbm, 735, rfl⟩
abbrev main_v476 : Ref sig .tc := ⟨.hbm, 736, rfl⟩
abbrev main_v477 : Ref sig .tc := ⟨.hbm, 737, rfl⟩
abbrev main_v478 : Ref sig .tc := ⟨.hbm, 738, rfl⟩
abbrev main_c_150 : Ref sig .tc := ⟨.hbm, 739, rfl⟩
abbrev main_v479 : Ref sig .tc := ⟨.hbm, 740, rfl⟩
abbrev main_v480 : Ref sig .tc := ⟨.hbm, 741, rfl⟩
abbrev main_v481 : Ref sig .tc := ⟨.hbm, 742, rfl⟩
abbrev main_c_151 : Ref sig .tc := ⟨.hbm, 743, rfl⟩
abbrev main_v482 : Ref sig .tc := ⟨.hbm, 744, rfl⟩
abbrev main_v483 : Ref sig .tc := ⟨.hbm, 745, rfl⟩
abbrev main_v484 : Ref sig .tc := ⟨.hbm, 746, rfl⟩
abbrev main_cst_152 : Ref sig .tc := ⟨.hbm, 747, rfl⟩
abbrev main_call24_v0 : Ref sig .tc := ⟨.hbm, 748, rfl⟩
abbrev main_call24_v1 : Ref sig .tc := ⟨.hbm, 749, rfl⟩
abbrev main_v485 : Ref sig .tc := ⟨.hbm, 750, rfl⟩
abbrev main_c_153 : Ref sig .tc := ⟨.hbm, 751, rfl⟩
abbrev main_c_154 : Ref sig .tc := ⟨.hbm, 752, rfl⟩
abbrev main_call25_v0 : Ref sig .tc := ⟨.hbm, 753, rfl⟩
abbrev main_call25_v1 : Ref sig .tc := ⟨.hbm, 754, rfl⟩
abbrev main_call25_v2 : Ref sig .tc := ⟨.hbm, 755, rfl⟩
abbrev main_call25_v3 : Ref sig .tc := ⟨.hbm, 756, rfl⟩
abbrev main_call25_v4 : Ref sig .tc := ⟨.hbm, 757, rfl⟩
abbrev main_v486 : Ref sig .tc := ⟨.hbm, 758, rfl⟩
abbrev main_c_155 : Ref sig .tc := ⟨.hbm, 759, rfl⟩
abbrev main_c_156 : Ref sig .tc := ⟨.hbm, 760, rfl⟩
abbrev main_call26_v0 : Ref sig .tc := ⟨.hbm, 761, rfl⟩
abbrev main_call26_v1 : Ref sig .tc := ⟨.hbm, 762, rfl⟩
abbrev main_call26_v2 : Ref sig .tc := ⟨.hbm, 763, rfl⟩
abbrev main_call26_v3 : Ref sig .tc := ⟨.hbm, 764, rfl⟩
abbrev main_call26_v4 : Ref sig .tc := ⟨.hbm, 765, rfl⟩
abbrev main_v487 : Ref sig .tc := ⟨.hbm, 766, rfl⟩
abbrev main_c_157 : Ref sig .tc := ⟨.hbm, 767, rfl⟩
abbrev main_c_158 : Ref sig .tc := ⟨.hbm, 768, rfl⟩
abbrev main_call27_v0 : Ref sig .tc := ⟨.hbm, 769, rfl⟩
abbrev main_call27_v1 : Ref sig .tc := ⟨.hbm, 770, rfl⟩
abbrev main_call27_v2 : Ref sig .tc := ⟨.hbm, 771, rfl⟩
abbrev main_call27_v3 : Ref sig .tc := ⟨.hbm, 772, rfl⟩
abbrev main_call27_v4 : Ref sig .tc := ⟨.hbm, 773, rfl⟩
abbrev main_v488 : Ref sig .tc := ⟨.hbm, 774, rfl⟩
abbrev main_c_159 : Ref sig .tc := ⟨.hbm, 775, rfl⟩
abbrev main_v489 : Ref sig .tc := ⟨.hbm, 776, rfl⟩
abbrev main_v490 : Ref sig .tc := ⟨.hbm, 777, rfl⟩
abbrev main_v491 : Ref sig .tc := ⟨.hbm, 778, rfl⟩
abbrev main_v492 : Ref sig .tc := ⟨.hbm, 779, rfl⟩
abbrev main_c_160 : Ref sig .tc := ⟨.hbm, 780, rfl⟩
abbrev main_v493 : Ref sig .tc := ⟨.hbm, 781, rfl⟩
abbrev main_v494 : Ref sig .tc := ⟨.hbm, 782, rfl⟩
abbrev main_v495 : Ref sig .tc := ⟨.hbm, 783, rfl⟩
abbrev main_c_161 : Ref sig .tc := ⟨.hbm, 784, rfl⟩
abbrev main_v496 : Ref sig .tc := ⟨.hbm, 785, rfl⟩
abbrev main_v497 : Ref sig .tc := ⟨.hbm, 786, rfl⟩
abbrev main_v498 : Ref sig .tc := ⟨.hbm, 787, rfl⟩
abbrev main_v499 : Ref sig .tc := ⟨.hbm, 788, rfl⟩
abbrev main_v500 : Ref sig .tc := ⟨.hbm, 789, rfl⟩
abbrev main_v501 : Ref sig .tc := ⟨.hbm, 790, rfl⟩
abbrev main_v502 : Ref sig .tc := ⟨.hbm, 791, rfl⟩
abbrev main_v503 : Ref sig .tc := ⟨.hbm, 792, rfl⟩
abbrev main_v504 : Ref sig .tc := ⟨.hbm, 793, rfl⟩
abbrev main_c_162 : Ref sig .tc := ⟨.hbm, 794, rfl⟩
abbrev main_v505 : Ref sig .tc := ⟨.hbm, 795, rfl⟩
abbrev main_v506 : Ref sig .tc := ⟨.hbm, 796, rfl⟩
abbrev main_c_163 : Ref sig .tc := ⟨.hbm, 797, rfl⟩
abbrev main_v507 : Ref sig .tc := ⟨.hbm, 798, rfl⟩
abbrev main_v508 : Ref sig .tc := ⟨.hbm, 799, rfl⟩
abbrev main_v509 : Ref sig .tc := ⟨.hbm, 800, rfl⟩
abbrev main_v510 : Ref sig .tc := ⟨.hbm, 801, rfl⟩
abbrev main_v511 : Ref sig .tc := ⟨.hbm, 802, rfl⟩
abbrev main_v512 : Ref sig .tc := ⟨.hbm, 803, rfl⟩
abbrev main_v513 : Ref sig .tc := ⟨.hbm, 804, rfl⟩
abbrev main_c_164 : Ref sig .tc := ⟨.hbm, 805, rfl⟩
abbrev main_v514 : Ref sig .tc := ⟨.hbm, 806, rfl⟩
abbrev main_v515 : Ref sig .tc := ⟨.hbm, 807, rfl⟩
abbrev main_v516 : Ref sig .tc := ⟨.hbm, 808, rfl⟩
abbrev main_v517 : Ref sig .tc := ⟨.hbm, 809, rfl⟩
abbrev main_c_165 : Ref sig .tc := ⟨.hbm, 810, rfl⟩
abbrev main_v518 : Ref sig .tc := ⟨.hbm, 811, rfl⟩
abbrev main_v519 : Ref sig .tc := ⟨.hbm, 812, rfl⟩
abbrev main_v520 : Ref sig .tc := ⟨.hbm, 813, rfl⟩
abbrev main_v521 : Ref sig .tc := ⟨.hbm, 814, rfl⟩
abbrev main_c_166 : Ref sig .tc := ⟨.hbm, 815, rfl⟩
abbrev main_v522 : Ref sig .tc := ⟨.hbm, 816, rfl⟩
abbrev main_v523 : Ref sig .tc := ⟨.hbm, 817, rfl⟩
abbrev main_v524 : Ref sig .tc := ⟨.hbm, 818, rfl⟩
abbrev main_v525 : Ref sig .tc := ⟨.hbm, 819, rfl⟩
abbrev main_v526 : Ref sig .tc := ⟨.hbm, 820, rfl⟩
abbrev main_v527 : Ref sig .tc := ⟨.hbm, 821, rfl⟩
abbrev main_v528 : Ref sig .tc := ⟨.hbm, 822, rfl⟩
abbrev main_v529 : Ref sig .tc := ⟨.hbm, 823, rfl⟩
abbrev main_v530 : Ref sig .tc := ⟨.hbm, 824, rfl⟩
abbrev main_v531 : Ref sig .tc := ⟨.hbm, 825, rfl⟩
abbrev main_c_167 : Ref sig .tc := ⟨.hbm, 826, rfl⟩
abbrev main_v532 : Ref sig .tc := ⟨.hbm, 827, rfl⟩
abbrev main_v533 : Ref sig .tc := ⟨.hbm, 828, rfl⟩
abbrev main_c_168 : Ref sig .tc := ⟨.hbm, 829, rfl⟩
abbrev main_v534 : Ref sig .tc := ⟨.hbm, 830, rfl⟩
abbrev main_v535 : Ref sig .tc := ⟨.hbm, 831, rfl⟩
abbrev main_v536 : Ref sig .tc := ⟨.hbm, 832, rfl⟩
abbrev main_c_169 : Ref sig .tc := ⟨.hbm, 833, rfl⟩
abbrev main_v537 : Ref sig .tc := ⟨.hbm, 834, rfl⟩
abbrev main_v538 : Ref sig .tc := ⟨.hbm, 835, rfl⟩
abbrev main_v539 : Ref sig .tc := ⟨.hbm, 836, rfl⟩
abbrev main_c_170 : Ref sig .tc := ⟨.hbm, 837, rfl⟩
abbrev main_v540 : Ref sig .tc := ⟨.hbm, 838, rfl⟩
abbrev main_v541 : Ref sig .tc := ⟨.hbm, 839, rfl⟩
abbrev main_v542 : Ref sig .tc := ⟨.hbm, 840, rfl⟩
abbrev main_c_171 : Ref sig .tc := ⟨.hbm, 841, rfl⟩
abbrev main_v543 : Ref sig .tc := ⟨.hbm, 842, rfl⟩
abbrev main_v544 : Ref sig .tc := ⟨.hbm, 843, rfl⟩
abbrev main_v545 : Ref sig .tc := ⟨.hbm, 844, rfl⟩
abbrev main_c_172 : Ref sig .tc := ⟨.hbm, 845, rfl⟩
abbrev main_v546 : Ref sig .tc := ⟨.hbm, 846, rfl⟩
abbrev main_v547 : Ref sig .tc := ⟨.hbm, 847, rfl⟩
abbrev main_v548 : Ref sig .tc := ⟨.hbm, 848, rfl⟩
abbrev main_cst_173 : Ref sig .tc := ⟨.hbm, 849, rfl⟩
abbrev main_call28_v0 : Ref sig .tc := ⟨.hbm, 850, rfl⟩
abbrev main_call28_v1 : Ref sig .tc := ⟨.hbm, 851, rfl⟩
abbrev main_v549 : Ref sig .tc := ⟨.hbm, 852, rfl⟩
abbrev main_c_174 : Ref sig .tc := ⟨.hbm, 853, rfl⟩
abbrev main_c_175 : Ref sig .tc := ⟨.hbm, 854, rfl⟩
abbrev main_call29_v0 : Ref sig .tc := ⟨.hbm, 855, rfl⟩
abbrev main_call29_v1 : Ref sig .tc := ⟨.hbm, 856, rfl⟩
abbrev main_call29_v2 : Ref sig .tc := ⟨.hbm, 857, rfl⟩
abbrev main_call29_v3 : Ref sig .tc := ⟨.hbm, 858, rfl⟩
abbrev main_call29_v4 : Ref sig .tc := ⟨.hbm, 859, rfl⟩
abbrev main_v550 : Ref sig .tc := ⟨.hbm, 860, rfl⟩
abbrev main_c_176 : Ref sig .tc := ⟨.hbm, 861, rfl⟩
abbrev main_c_177 : Ref sig .tc := ⟨.hbm, 862, rfl⟩
abbrev main_call30_v0 : Ref sig .tc := ⟨.hbm, 863, rfl⟩
abbrev main_call30_v1 : Ref sig .tc := ⟨.hbm, 864, rfl⟩
abbrev main_call30_v2 : Ref sig .tc := ⟨.hbm, 865, rfl⟩
abbrev main_call30_v3 : Ref sig .tc := ⟨.hbm, 866, rfl⟩
abbrev main_call30_v4 : Ref sig .tc := ⟨.hbm, 867, rfl⟩
abbrev main_v551 : Ref sig .tc := ⟨.hbm, 868, rfl⟩
abbrev main_c_178 : Ref sig .tc := ⟨.hbm, 869, rfl⟩
abbrev main_c_179 : Ref sig .tc := ⟨.hbm, 870, rfl⟩
abbrev main_call31_v0 : Ref sig .tc := ⟨.hbm, 871, rfl⟩
abbrev main_call31_v1 : Ref sig .tc := ⟨.hbm, 872, rfl⟩
abbrev main_call31_v2 : Ref sig .tc := ⟨.hbm, 873, rfl⟩
abbrev main_call31_v3 : Ref sig .tc := ⟨.hbm, 874, rfl⟩
abbrev main_call31_v4 : Ref sig .tc := ⟨.hbm, 875, rfl⟩
abbrev main_v552 : Ref sig .tc := ⟨.hbm, 876, rfl⟩
abbrev main_c_180 : Ref sig .tc := ⟨.hbm, 877, rfl⟩
abbrev main_v553 : Ref sig .tc := ⟨.hbm, 878, rfl⟩
abbrev main_v554 : Ref sig .tc := ⟨.hbm, 879, rfl⟩
abbrev main_v555 : Ref sig .tc := ⟨.hbm, 880, rfl⟩
abbrev main_v556 : Ref sig .tc := ⟨.hbm, 881, rfl⟩
abbrev main_c_181 : Ref sig .tc := ⟨.hbm, 882, rfl⟩
abbrev main_v557 : Ref sig .tc := ⟨.hbm, 883, rfl⟩
abbrev main_v558 : Ref sig .tc := ⟨.hbm, 884, rfl⟩
abbrev main_v559 : Ref sig .tc := ⟨.hbm, 885, rfl⟩
abbrev main_c_182 : Ref sig .tc := ⟨.hbm, 886, rfl⟩
abbrev main_v560 : Ref sig .tc := ⟨.hbm, 887, rfl⟩
abbrev main_v561 : Ref sig .tc := ⟨.hbm, 888, rfl⟩
abbrev main_v562 : Ref sig .tc := ⟨.hbm, 889, rfl⟩
abbrev main_v563 : Ref sig .tc := ⟨.hbm, 890, rfl⟩
abbrev main_v564 : Ref sig .tc := ⟨.hbm, 891, rfl⟩
abbrev main_v565 : Ref sig .tc := ⟨.hbm, 892, rfl⟩
abbrev main_v566 : Ref sig .tc := ⟨.hbm, 893, rfl⟩
abbrev main_v567 : Ref sig .tc := ⟨.hbm, 894, rfl⟩
abbrev main_v568 : Ref sig .tc := ⟨.hbm, 895, rfl⟩
abbrev main_c_183 : Ref sig .tc := ⟨.hbm, 896, rfl⟩
abbrev main_v569 : Ref sig .tc := ⟨.hbm, 897, rfl⟩
abbrev main_v570 : Ref sig .tc := ⟨.hbm, 898, rfl⟩
abbrev main_c_184 : Ref sig .tc := ⟨.hbm, 899, rfl⟩
abbrev main_v571 : Ref sig .tc := ⟨.hbm, 900, rfl⟩
abbrev main_v572 : Ref sig .tc := ⟨.hbm, 901, rfl⟩
abbrev main_v573 : Ref sig .tc := ⟨.hbm, 902, rfl⟩
abbrev main_v574 : Ref sig .tc := ⟨.hbm, 903, rfl⟩
abbrev main_v575 : Ref sig .tc := ⟨.hbm, 904, rfl⟩
abbrev main_v576 : Ref sig .tc := ⟨.hbm, 905, rfl⟩
abbrev main_v577 : Ref sig .tc := ⟨.hbm, 906, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x3 : Shape := ⟨2, ![16384, 3]⟩
abbrev S16384 : Shape := ⟨1, ![16384]⟩
abbrev S16384x32 : Shape := ⟨2, ![16384, 32]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x64x1 : Shape := ⟨3, ![16384, 64, 1]⟩
abbrev S1x1x64 : Shape := ⟨3, ![1, 1, 64]⟩
abbrev S16384x64x64 : Shape := ⟨3, ![16384, 64, 64]⟩
abbrev S16384x64x64x1 : Shape := ⟨4, ![16384, 64, 64, 1]⟩
abbrev S16384x64x1x64 : Shape := ⟨4, ![16384, 64, 1, 64]⟩
abbrev S16384x64x64x64 : Shape := ⟨4, ![16384, 64, 64, 64]⟩
abbrev S16384x1x1x32 : Shape := ⟨4, ![16384, 1, 1, 32]⟩
abbrev S16384x64x64x32 : Shape := ⟨4, ![16384, 64, 64, 32]⟩
abbrev S64x64x64x32 : Shape := ⟨4, ![64, 64, 64, 32]⟩
abbrev S1x64x64x64x32 : Shape := ⟨5, ![1, 64, 64, 64, 32]⟩

abbrev nBuf : Space → Nat
  | .hbm => 145
  | .vmem => 0
  | .smem => 0
  | _ => 0

abbrev hbmTy0_0 (i : Nat) : BufTy := match i % 128 with
  | 0 => ⟨S16384x3, .f32⟩
  | 1 => ⟨S16384x3, .f32⟩
  | 2 => ⟨S16384, .f32⟩
  | 3 => ⟨S16384, .f32⟩
  | 4 => ⟨S16384x32, .f32⟩
  | 5 => ⟨S16384, .i32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S16384, .f32⟩
  | 14 => ⟨S16384x1, .f32⟩
  | 15 => ⟨S16384x1, .f32⟩
  | 16 => ⟨S1x64, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S_, .f32⟩
  | 23 => ⟨S16384, .f32⟩
  | 24 => ⟨S16384, .f32⟩
  | 25 => ⟨S16384x1, .f32⟩
  | 26 => ⟨S16384, .f32⟩
  | 27 => ⟨S16384x1, .f32⟩
  | 28 => ⟨S16384x1, .f32⟩
  | 29 => ⟨S16384, .f32⟩
  | 30 => ⟨S16384x1, .f32⟩
  | 31 => ⟨S16384x64, .f32⟩
  | 32 => ⟨S16384x64, .f32⟩
  | 33 => ⟨S16384x64, .f32⟩
  | 34 => ⟨S16384x64, .f32⟩
  | 35 => ⟨S_, .f32⟩
  | 36 => ⟨S16384x64, .f32⟩
  | 37 => ⟨S16384x64, .f32⟩
  | 38 => ⟨S_, .f32⟩
  | 39 => ⟨S16384x64, .f32⟩
  | 40 => ⟨S16384x64, .f32⟩
  | 41 => ⟨S_, .f32⟩
  | 42 => ⟨S16384x64, .f32⟩
  | 43 => ⟨S16384x64, .f32⟩
  | 44 => ⟨S64, .f32⟩
  | 45 => ⟨S16384x64x1, .f32⟩
  | 46 => ⟨S1x1x64, .f32⟩
  | 47 => ⟨S16384x64x64, .f32⟩
  | 48 => ⟨S16384x64x64, .f32⟩
  | 49 => ⟨S16384x64x64, .f32⟩
  | 50 => ⟨S16384x64x64, .f32⟩
  | 51 => ⟨S_, .f32⟩
  | 52 => ⟨S16384x64x64, .f32⟩
  | 53 => ⟨S16384x64x64, .f32⟩
  | 54 => ⟨S_, .f32⟩
  | 55 => ⟨S16384x64x64, .f32⟩
  | 56 => ⟨S16384x64x64, .f32⟩
  | 57 => ⟨S16384x1, .f32⟩
  | 58 => ⟨S16384, .f32⟩
  | 59 => ⟨S16384x1, .f32⟩
  | 60 => ⟨S16384x1, .f32⟩
  | 61 => ⟨S16384, .f32⟩
  | 62 => ⟨S16384x1, .f32⟩
  | 63 => ⟨S16384x64, .f32⟩
  | 64 => ⟨S16384x64, .f32⟩
  | 65 => ⟨S16384x64, .f32⟩
  | 66 => ⟨S16384x64, .f32⟩
  | 67 => ⟨S_, .f32⟩
  | 68 => ⟨S16384x64, .f32⟩
  | 69 => ⟨S16384x64, .f32⟩
  | 70 => ⟨S_, .f32⟩
  | 71 => ⟨S16384x64, .f32⟩
  | 72 => ⟨S16384x64, .f32⟩
  | 73 => ⟨S_, .f32⟩
  | 74 => ⟨S16384x64, .f32⟩
  | 75 => ⟨S16384x64, .f32⟩
  | 76 => ⟨S64, .f32⟩
  | 77 => ⟨S16384x64x1, .f32⟩
  | 78 => ⟨S1x1x64, .f32⟩
  | 79 => ⟨S16384x64x64, .f32⟩
  | 80 => ⟨S16384x64x64, .f32⟩
  | 81 => ⟨S16384x64x64, .f32⟩
  | 82 => ⟨S16384x64x64, .f32⟩
  | 83 => ⟨S_, .f32⟩
  | 84 => ⟨S16384x64x64, .f32⟩
  | 85 => ⟨S16384x64x64, .f32⟩
  | 86 => ⟨S_, .f32⟩
  | 87 => ⟨S16384x64x64, .f32⟩
  | 88 => ⟨S16384x64x64, .f32⟩
  | 89 => ⟨S16384x1, .f32⟩
  | 90 => ⟨S16384, .f32⟩
  | 91 => ⟨S16384x1, .f32⟩
  | 92 => ⟨S16384x1, .f32⟩
  | 93 => ⟨S16384, .f32⟩
  | 94 => ⟨S16384x1, .f32⟩
  | 95 => ⟨S16384x64, .f32⟩
  | 96 => ⟨S16384x64, .f32⟩
  | 97 => ⟨S16384x64, .f32⟩
  | 98 => ⟨S16384x64, .f32⟩
  | 99 => ⟨S_, .f32⟩
  | 100 => ⟨S16384x64, .f32⟩
  | 101 => ⟨S16384x64, .f32⟩
  | 102 => ⟨S_, .f32⟩
  | 103 => ⟨S16384x64, .f32⟩
  | 104 => ⟨S16384x64, .f32⟩
  | 105 => ⟨S_, .f32⟩
  | 106 => ⟨S16384x64, .f32⟩
  | 107 => ⟨S16384x64, .f32⟩
  | 108 => ⟨S64, .f32⟩
  | 109 => ⟨S16384x64x1, .f32⟩
  | 110 => ⟨S1x1x64, .f32⟩
  | 111 => ⟨S16384x64x64, .f32⟩
  | 112 => ⟨S16384x64x64, .f32⟩
  | 113 => ⟨S16384x64x64, .f32⟩
  | 114 => ⟨S16384x64x64, .f32⟩
  | 115 => ⟨S_, .f32⟩
  | 116 => ⟨S16384x64x64, .f32⟩
  | 117 => ⟨S16384x64x64, .f32⟩
  | 118 => ⟨S_, .f32⟩
  | 119 => ⟨S16384x64x64, .f32⟩
  | 120 => ⟨S16384x64x64, .f32⟩
  | 121 => ⟨S_, .i32⟩
  | 122 => ⟨S16384, .i32⟩
  | 123 => ⟨S16384, .i1⟩
  | 124 => ⟨S16384x1, .i1⟩
  | 125 => ⟨S16384x1, .f32⟩
  | 126 => ⟨S16384x32, .f32⟩
  | 127 => ⟨S16384x32, .f32⟩
  | _ => ⟨S16384x3, .f32⟩

abbrev hbmTy0_1 (i : Nat) : BufTy := match i % 128 with
  | 0 => ⟨S_, .f32⟩
  | 1 => ⟨S_, .f32⟩
  | 2 => ⟨S16384x32, .i1⟩
  | 3 => ⟨S16384x32, .f32⟩
  | 4 => ⟨S16384x32, .f32⟩
  | 5 => ⟨S16384x64x64x1, .f32⟩
  | 6 => ⟨S16384x64x1x64, .f32⟩
  | 7 => ⟨S16384x64x64x64, .f32⟩
  | 8 => ⟨S16384x64x64x64, .f32⟩
  | 9 => ⟨S16384x64x64x64, .f32⟩
  | 10 => ⟨S16384x64x64x1, .f32⟩
  | 11 => ⟨S16384x1x1x32, .f32⟩
  | 12 => ⟨S16384x64x64x32, .f32⟩
  | 13 => ⟨S16384x64x64x32, .f32⟩
  | 14 => ⟨S16384x64x64x32, .f32⟩
  | 15 => ⟨S64x64x64x32, .f32⟩
  | 16 => ⟨S1x64x64x64x32, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_cst_13 : Ref sig .tc := ⟨.hbm, 102, rfl⟩
abbrev main_v82 : Ref sig .tc := ⟨.hbm, 103, rfl⟩
abbrev main_v83 : Ref sig .tc := ⟨.hbm, 104, rfl⟩
abbrev main_cst_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_c : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_17 : Ref sig .tc := ⟨.hbm, 128, rfl⟩
abbrev main_call0_v0 : Ref sig .tc := ⟨.hbm, 129, rfl⟩
abbrev main_call0_v1 : Ref sig .tc := ⟨.hbm, 130, rfl⟩
abbrev main_call0_v2 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩

abbrev nD : Nat := 1
abbrev τ : Topo := Topo.v7x

variable {F : FTy → Type} [FloatOps F]
-- ==== Lines.lean ====
abbrev S16384x3 : Shape := ⟨2, ![16384, 3]⟩
abbrev S16384 : Shape := ⟨1, ![16384]⟩
abbrev S16384x32 : Shape := ⟨2, ![16384, 32]⟩
abbrev S3 : Shape := ⟨1, ![3]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x1x3 : Shape := ⟨3, ![16384, 1, 3]⟩
abbrev S16384x64x1 : Shape := ⟨3, ![16384, 64, 1]⟩
abbrev S16384x64x3 : Shape := ⟨3, ![16384, 64, 3]⟩
abbrev S1x1x3 : Shape := ⟨3, ![1, 1, 3]⟩
abbrev S16384x1x32 : Shape := ⟨3, ![16384, 1, 32]⟩
abbrev S16384x1x1 : Shape := ⟨3, ![16384, 1, 1]⟩
abbrev S262144x32 : Shape := ⟨2, ![262144, 32]⟩
abbrev S16384x64x32 : Shape := ⟨3, ![16384, 64, 32]⟩
abbrev S1048576 : Shape := ⟨1, ![1048576]⟩
abbrev S1048576x32 : Shape := ⟨2, ![1048576, 32]⟩
abbrev S1048576x1 : Shape := ⟨2, ![1048576, 1]⟩
abbrev S1x64x64x64x32 : Shape := ⟨5, ![1, 64, 64, 64, 32]⟩

abbrev nBuf : Space → Nat
  | .hbm => 906
  | .vmem => 0
  | .smem => 0
  | _ => 0

abbrev hbmTy0_0 (i : Nat) : BufTy := match i % 128 with
  | 0 => ⟨S16384x3, .f32⟩
  | 1 => ⟨S16384x3, .f32⟩
  | 2 => ⟨S16384, .f32⟩
  | 3 => ⟨S16384, .f32⟩
  | 4 => ⟨S16384x32, .f32⟩
  | 5 => ⟨S16384, .i32⟩
  | 6 => ⟨S3, .f32⟩
  | 7 => ⟨S16384, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S16384x1, .f32⟩
  | 16 => ⟨S16384x1, .f32⟩
  | 17 => ⟨S1x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S_, .f32⟩
  | 24 => ⟨S16384, .f32⟩
  | 25 => ⟨S16384, .f32⟩
  | 26 => ⟨S16384x1x3, .f32⟩
  | 27 => ⟨S16384x1x3, .f32⟩
  | 28 => ⟨S16384x64x1, .f32⟩
  | 29 => ⟨S16384x64x3, .f32⟩
  | 30 => ⟨S16384x64x3, .f32⟩
  | 31 => ⟨S16384x64x3, .f32⟩
  | 32 => ⟨S16384x64x3, .f32⟩
  | 33 => ⟨S16384x64x3, .f32⟩
  | 34 => ⟨S_, .f32⟩
  | 35 => ⟨S16384x64x3, .f32⟩
  | 36 => ⟨S16384x64x3, .f32⟩
  | 37 => ⟨S_, .f32⟩
  | 38 => ⟨S16384x64x3, .f32⟩
  | 39 => ⟨S16384x64x3, .f32⟩
  | 40 => ⟨S1x1x3, .f32⟩
  | 41 => ⟨S16384x64x3, .f32⟩
  | 42 => ⟨S16384x64x3, .f32⟩
  | 43 => ⟨S16384x64x3, .f32⟩
  | 44 => ⟨S16384x64x3, .f32⟩
  | 45 => ⟨S16384x64x3, .i32⟩
  | 46 => ⟨S16384x1, .i32⟩
  | 47 => ⟨S16384x1x32, .f32⟩
  | 48 => ⟨S16384x1x1, .f32⟩
  | 49 => ⟨S16384x1x32, .f32⟩
  | 50 => ⟨S16384x1x32, .f32⟩
  | 51 => ⟨S_, .f32⟩
  | 52 => ⟨S262144x32, .f32⟩
  | 53 => ⟨S16384x64x1, .i32⟩
  | 54 => ⟨S16384x64, .i32⟩
  | 55 => ⟨S_, .i32⟩
  | 56 => ⟨S16384x64, .i32⟩
  | 57 => ⟨S16384x64, .i32⟩
  | 58 => ⟨S16384x64x1, .i32⟩
  | 59 => ⟨S16384x64, .i32⟩
  | 60 => ⟨S_, .i32⟩
  | 61 => ⟨S16384x64, .i32⟩
  | 62 => ⟨S16384x64, .i32⟩
  | 63 => ⟨S16384x64x1, .i32⟩
  | 64 => ⟨S16384x64, .i32⟩
  | 65 => ⟨S_, .i32⟩
  | 66 => ⟨S16384x64, .i32⟩
  | 67 => ⟨S16384x64, .i32⟩
  | 68 => ⟨S16384x64x1, .f32⟩
  | 69 => ⟨S16384x64, .f32⟩
  | 70 => ⟨S_, .f32⟩
  | 71 => ⟨S16384x64, .f32⟩
  | 72 => ⟨S16384x64, .f32⟩
  | 73 => ⟨S16384x64x1, .f32⟩
  | 74 => ⟨S16384x64, .f32⟩
  | 75 => ⟨S_, .f32⟩
  | 76 => ⟨S16384x64, .f32⟩
  | 77 => ⟨S16384x64, .f32⟩
  | 78 => ⟨S16384x64x1, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S16384x64, .f32⟩
  | 85 => ⟨S_, .i32⟩
  | 86 => ⟨S16384x64, .i32⟩
  | 87 => ⟨S16384x64, .i1⟩
  | 88 => ⟨S_, .i32⟩
  | 89 => ⟨S16384x64, .i32⟩
  | 90 => ⟨S16384x64, .i1⟩
  | 91 => ⟨S16384x64, .i1⟩
  | 92 => ⟨S_, .i32⟩
  | 93 => ⟨S16384x64, .i32⟩
  | 94 => ⟨S16384x64, .i1⟩
  | 95 => ⟨S16384x64, .i1⟩
  | 96 => ⟨S_, .i32⟩
  | 97 => ⟨S16384x64, .i32⟩
  | 98 => ⟨S16384x64, .i1⟩
  | 99 => ⟨S16384x64, .i1⟩
  | 100 => ⟨S_, .i32⟩
  | 101 => ⟨S16384x64, .i32⟩
  | 102 => ⟨S16384x64, .i1⟩
  | 103 => ⟨S16384x64, .i1⟩
  | 104 => ⟨S_, .i32⟩
  | 105 => ⟨S16384x64, .i32⟩
  | 106 => ⟨S16384x64, .i1⟩
  | 107 => ⟨S16384x64, .i1⟩
  | 108 => ⟨S_, .f32⟩
  | 109 => ⟨S_, .f32⟩
  | 110 => ⟨S16384x64, .f32⟩
  | 111 => ⟨S16384x64, .f32⟩
  | 112 => ⟨S_, .i32⟩
  | 113 => ⟨S_, .i32⟩
  | 114 => ⟨S_, .i32⟩
  | 115 => ⟨S16384x64, .i32⟩
  | 116 => ⟨S16384x64, .i32⟩
  | 117 => ⟨S_, .i32⟩
  | 118 => ⟨S16384x64, .i32⟩
  | 119 => ⟨S16384x64, .i32⟩
  | 120 => ⟨S_, .i32⟩
  | 121 => ⟨S_, .i32⟩
  | 122 => ⟨S_, .i32⟩
  | 123 => ⟨S16384x64, .i32⟩
  | 124 => ⟨S16384x64, .i32⟩
  | 125 => ⟨S_, .i32⟩
  | 126 => ⟨S16384x64, .i32⟩
  | 127 => ⟨S16384x64, .i32⟩
  | _ => ⟨S16384x3, .f32⟩

abbrev hbmTy0_1 (i : Nat) : BufTy := match i % 128 with
  | 0 => ⟨S_, .i32⟩
  | 1 => ⟨S_, .i32⟩
  | 2 => ⟨S_, .i32⟩
  | 3 => ⟨S16384x64, .i32⟩
  | 4 => ⟨S16384x64, .i32⟩
  | 5 => ⟨S_, .i32⟩
  | 6 => ⟨S16384x64, .i32⟩
  | 7 => ⟨S16384x64, .i32⟩
  | 8 => ⟨S_, .i32⟩
  | 9 => ⟨S16384x1, .i32⟩
  | 10 => ⟨S16384x1, .i32⟩
  | 11 => ⟨S16384x64, .i32⟩
  | 12 => ⟨S16384x64, .i32⟩
  | 13 => ⟨S_, .i32⟩
  | 14 => ⟨S16384x64, .i32⟩
  | 15 => ⟨S16384x64, .i32⟩
  | 16 => ⟨S16384x64, .i32⟩
  | 17 => ⟨S_, .i32⟩
  | 18 => ⟨S16384x64, .i32⟩
  | 19 => ⟨S16384x64, .i32⟩
  | 20 => ⟨S16384x64, .i32⟩
  | 21 => ⟨S16384x64x1, .f32⟩
  | 22 => ⟨S16384x64x32, .f32⟩
  | 23 => ⟨S16384x64x32, .f32⟩
  | 24 => ⟨S16384x64x32, .f32⟩
  | 25 => ⟨S1048576, .i32⟩
  | 26 => ⟨S1048576x32, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S262144x32, .f32⟩
  | 36 => ⟨S16384x64x1, .i32⟩
  | 37 => ⟨S16384x64, .i32⟩
  | 38 => ⟨S_, .i32⟩
  | 39 => ⟨S16384x64, .i32⟩
  | 40 => ⟨S16384x64, .i32⟩
  | 41 => ⟨S16384x64x1, .i32⟩
  | 42 => ⟨S16384x64, .i32⟩
  | 43 => ⟨S_, .i32⟩
  | 44 => ⟨S16384x64, .i32⟩
  | 45 => ⟨S16384x64, .i32⟩
  | 46 => ⟨S16384x64x1, .i32⟩
  | 47 => ⟨S16384x64, .i32⟩
  | 48 => ⟨S_, .i32⟩
  | 49 => ⟨S16384x64, .i32⟩
  | 50 => ⟨S16384x64, .i32⟩
  | 51 => ⟨S16384x64x1, .f32⟩
  | 52 => ⟨S16384x64, .f32⟩
  | 53 => ⟨S16384x64x1, .f32⟩
  | 54 => ⟨S16384x64, .f32⟩
  | 55 => ⟨S_, .f32⟩
  | 56 => ⟨S16384x64, .f32⟩
  | 57 => ⟨S16384x64, .f32⟩
  | 58 => ⟨S16384x64x1, .f32⟩
  | 59 => ⟨S16384x64, .f32⟩
  | 60 => ⟨S_, .f32⟩
  | 61 => ⟨S16384x64, .f32⟩
  | 62 => ⟨S16384x64, .f32⟩
  | 63 => ⟨S16384x64, .f32⟩
  | 64 => ⟨S16384x64, .f32⟩
  | 65 => ⟨S_, .i32⟩
  | 66 => ⟨S16384x64, .i32⟩
  | 67 => ⟨S16384x64, .i1⟩
  | 68 => ⟨S_, .i32⟩
  | 69 => ⟨S16384x64, .i32⟩
  | 70 => ⟨S16384x64, .i1⟩
  | 71 => ⟨S16384x64, .i1⟩
  | 72 => ⟨S_, .i32⟩
  | 73 => ⟨S16384x64, .i32⟩
  | 74 => ⟨S16384x64, .i1⟩
  | 75 => ⟨S16384x64, .i1⟩
  | 76 => ⟨S_, .i32⟩
  | 77 => ⟨S16384x64, .i32⟩
  | 78 => ⟨S16384x64, .i1⟩
  | 79 => ⟨S16384x64, .i1⟩
  | 80 => ⟨S_, .i32⟩
  | 81 => ⟨S16384x64, .i32⟩
  | 82 => ⟨S16384x64, .i1⟩
  | 83 => ⟨S16384x64, .i1⟩
  | 84 => ⟨S_, .i32⟩
  | 85 => ⟨S16384x64, .i32⟩
  | 86 => ⟨S16384x64, .i1⟩
  | 87 => ⟨S16384x64, .i1⟩
  | 88 => ⟨S_, .f32⟩
  | 89 => ⟨S_, .f32⟩
  | 90 => ⟨S16384x64, .f32⟩
  | 91 => ⟨S16384x64, .f32⟩
  | 92 => ⟨S_, .i32⟩
  | 93 => ⟨S_, .i32⟩
  | 94 => ⟨S_, .i32⟩
  | 95 => ⟨S16384x64, .i32⟩
  | 96 => ⟨S16384x64, .i32⟩
  | 97 => ⟨S_, .i32⟩
  | 98 => ⟨S16384x64, .i32⟩
  | 99 => ⟨S16384x64, .i32⟩
  | 100 => ⟨S_, .i32⟩
  | 101 => ⟨S_, .i32⟩
  | 102 => ⟨S_, .i32⟩
  | 103 => ⟨S16384x64, .i32⟩
  | 104 => ⟨S16384x64, .i32⟩
  | 105 => ⟨S_, .i32⟩
  | 106 => ⟨S16384x64, .i32⟩
  | 107 => ⟨S16384x64, .i32⟩
  | 108 => ⟨S_, .i32⟩
  | 109 => ⟨S_, .i32⟩
  | 110 => ⟨S_, .i32⟩
  | 111 => ⟨S16384x64, .i32⟩
  | 112 => ⟨S16384x64, .i32⟩
  | 113 => ⟨S_, .i32⟩
  | 114 => ⟨S16384x64, .i32⟩
  | 115 => ⟨S16384x64, .i32⟩
  | 116 => ⟨S_, .i32⟩
  | 117 => ⟨S16384x1, .i32⟩
  | 118 => ⟨S16384x1, .i32⟩
  | 119 => ⟨S16384x64, .i32⟩
  | 120 => ⟨S16384x64, .i32⟩
  | 121 => ⟨S_, .i32⟩
  | 122 => ⟨S16384x64, .i32⟩
  | 123 => ⟨S16384x64, .i32⟩
  | 124 => ⟨S16384x64, .i32⟩
  | 125 => ⟨S_, .i32⟩
  | 126 => ⟨S16384x64, .i32⟩
  | 127 => ⟨S16384x64, .i32⟩
  | _ => ⟨S16384x3, .f32⟩

abbrev hbmTy0_2 (i : Nat) : BufTy := match i % 128 with
  | 0 => ⟨S16384x64, .i32⟩
  | 1 => ⟨S16384x64x1, .f32⟩
  | 2 => ⟨S16384x64x32, .f32⟩
  | 3 => ⟨S16384x64x32, .f32⟩
  | 4 => ⟨S16384x64x32, .f32⟩
  | 5 => ⟨S1048576, .i32⟩
  | 6 => ⟨S1048576x32, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S262144x32, .f32⟩
  | 16 => ⟨S16384x64x1, .i32⟩
  | 17 => ⟨S16384x64, .i32⟩
  | 18 => ⟨S_, .i32⟩
  | 19 => ⟨S16384x64, .i32⟩
  | 20 => ⟨S16384x64, .i32⟩
  | 21 => ⟨S16384x64x1, .i32⟩
  | 22 => ⟨S16384x64, .i32⟩
  | 23 => ⟨S_, .i32⟩
  | 24 => ⟨S16384x64, .i32⟩
  | 25 => ⟨S16384x64, .i32⟩
  | 26 => ⟨S16384x64x1, .i32⟩
  | 27 => ⟨S16384x64, .i32⟩
  | 28 => ⟨S_, .i32⟩
  | 29 => ⟨S16384x64, .i32⟩
  | 30 => ⟨S16384x64, .i32⟩
  | 31 => ⟨S16384x64x1, .f32⟩
  | 32 => ⟨S16384x64, .f32⟩
  | 33 => ⟨S_, .f32⟩
  | 34 => ⟨S16384x64, .f32⟩
  | 35 => ⟨S16384x64, .f32⟩
  | 36 => ⟨S16384x64x1, .f32⟩
  | 37 => ⟨S16384x64, .f32⟩
  | 38 => ⟨S16384x64x1, .f32⟩
  | 39 => ⟨S16384x64, .f32⟩
  | 40 => ⟨S_, .f32⟩
  | 41 => ⟨S16384x64, .f32⟩
  | 42 => ⟨S16384x64, .f32⟩
  | 43 => ⟨S16384x64, .f32⟩
  | 44 => ⟨S16384x64, .f32⟩
  | 45 => ⟨S_, .i32⟩
  | 46 => ⟨S16384x64, .i32⟩
  | 47 => ⟨S16384x64, .i1⟩
  | 48 => ⟨S_, .i32⟩
  | 49 => ⟨S16384x64, .i32⟩
  | 50 => ⟨S16384x64, .i1⟩
  | 51 => ⟨S16384x64, .i1⟩
  | 52 => ⟨S_, .i32⟩
  | 53 => ⟨S16384x64, .i32⟩
  | 54 => ⟨S16384x64, .i1⟩
  | 55 => ⟨S16384x64, .i1⟩
  | 56 => ⟨S_, .i32⟩
  | 57 => ⟨S16384x64, .i32⟩
  | 58 => ⟨S16384x64, .i1⟩
  | 59 => ⟨S16384x64, .i1⟩
  | 60 => ⟨S_, .i32⟩
  | 61 => ⟨S16384x64, .i32⟩
  | 62 => ⟨S16384x64, .i1⟩
  | 63 => ⟨S16384x64, .i1⟩
  | 64 => ⟨S_, .i32⟩
  | 65 => ⟨S16384x64, .i32⟩
  | 66 => ⟨S16384x64, .i1⟩
  | 67 => ⟨S16384x64, .i1⟩
  | 68 => ⟨S_, .f32⟩
  | 69 => ⟨S_, .f32⟩
  | 70 => ⟨S16384x64, .f32⟩
  | 71 => ⟨S16384x64, .f32⟩
  | 72 => ⟨S_, .i32⟩
  | 73 => ⟨S_, .i32⟩
  | 74 => ⟨S_, .i32⟩
  | 75 => ⟨S16384x64, .i32⟩
  | 76 => ⟨S16384x64, .i32⟩
  | 77 => ⟨S_, .i32⟩
  | 78 => ⟨S16384x64, .i32⟩
  | 79 => ⟨S16384x64, .i32⟩
  | 80 => ⟨S_, .i32⟩
  | 81 => ⟨S_, .i32⟩
  | 82 => ⟨S_, .i32⟩
  | 83 => ⟨S16384x64, .i32⟩
  | 84 => ⟨S16384x64, .i32⟩
  | 85 => ⟨S_, .i32⟩
  | 86 => ⟨S16384x64, .i32⟩
  | 87 => ⟨S16384x64, .i32⟩
  | 88 => ⟨S_, .i32⟩
  | 89 => ⟨S_, .i32⟩
  | 90 => ⟨S_, .i32⟩
  | 91 => ⟨S16384x64, .i32⟩
  | 92 => ⟨S16384x64, .i32⟩
  | 93 => ⟨S_, .i32⟩
  | 94 => ⟨S16384x64, .i32⟩
  | 95 => ⟨S16384x64, .i32⟩
  | 96 => ⟨S_, .i32⟩
  | 97 => ⟨S16384x1, .i32⟩
  | 98 => ⟨S16384x1, .i32⟩
  | 99 => ⟨S16384x64, .i32⟩
  | 100 => ⟨S16384x64, .i32⟩
  | 101 => ⟨S_, .i32⟩
  | 102 => ⟨S16384x64, .i32⟩
  | 103 => ⟨S16384x64, .i32⟩
  | 104 => ⟨S16384x64, .i32⟩
  | 105 => ⟨S_, .i32⟩
  | 106 => ⟨S16384x64, .i32⟩
  | 107 => ⟨S16384x64, .i32⟩
  | 108 => ⟨S16384x64, .i32⟩
  | 109 => ⟨S16384x64x1, .f32⟩
  | 110 => ⟨S16384x64x32, .f32⟩
  | 111 => ⟨S16384x64x32, .f32⟩
  | 112 => ⟨S16384x64x32, .f32⟩
  | 113 => ⟨S1048576, .i32⟩
  | 114 => ⟨S1048576x32, .f32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S262144x32, .f32⟩
  | 124 => ⟨S16384x64x1, .i32⟩
  | 125 => ⟨S16384x64, .i32⟩
  | 126 => ⟨S_, .i32⟩
  | 127 => ⟨S16384x64, .i32⟩
  | _ => ⟨S16384x3, .f32⟩

abbrev hbmTy0_3 (i : Nat) : BufTy := match i % 128 with
  | 0 => ⟨S16384x64, .i32⟩
  | 1 => ⟨S16384x64x1, .i32⟩
  | 2 => ⟨S16384x64, .i32⟩
  | 3 => ⟨S_, .i32⟩
  | 4 => ⟨S16384x64, .i32⟩
  | 5 => ⟨S16384x64, .i32⟩
  | 6 => ⟨S16384x64x1, .i32⟩
  | 7 => ⟨S16384x64, .i32⟩
  | 8 => ⟨S_, .i32⟩
  | 9 => ⟨S16384x64, .i32⟩
  | 10 => ⟨S16384x64, .i32⟩
  | 11 => ⟨S16384x64x1, .f32⟩
  | 12 => ⟨S16384x64, .f32⟩
  | 13 => ⟨S16384x64x1, .f32⟩
  | 14 => ⟨S16384x64, .f32⟩
  | 15 => ⟨S16384x64x1, .f32⟩
  | 16 => ⟨S16384x64, .f32⟩
  | 17 => ⟨S_, .f32⟩
  | 18 => ⟨S16384x64, .f32⟩
  | 19 => ⟨S16384x64, .f32⟩
  | 20 => ⟨S16384x64, .f32⟩
  | 21 => ⟨S16384x64, .f32⟩
  | 22 => ⟨S_, .i32⟩
  | 23 => ⟨S16384x64, .i32⟩
  | 24 => ⟨S16384x64, .i1⟩
  | 25 => ⟨S_, .i32⟩
  | 26 => ⟨S16384x64, .i32⟩
  | 27 => ⟨S16384x64, .i1⟩
  | 28 => ⟨S16384x64, .i1⟩
  | 29 => ⟨S_, .i32⟩
  | 30 => ⟨S16384x64, .i32⟩
  | 31 => ⟨S16384x64, .i1⟩
  | 32 => ⟨S16384x64, .i1⟩
  | 33 => ⟨S_, .i32⟩
  | 34 => ⟨S16384x64, .i32⟩
  | 35 => ⟨S16384x64, .i1⟩
  | 36 => ⟨S16384x64, .i1⟩
  | 37 => ⟨S_, .i32⟩
  | 38 => ⟨S16384x64, .i32⟩
  | 39 => ⟨S16384x64, .i1⟩
  | 40 => ⟨S16384x64, .i1⟩
  | 41 => ⟨S_, .i32⟩
  | 42 => ⟨S16384x64, .i32⟩
  | 43 => ⟨S16384x64, .i1⟩
  | 44 => ⟨S16384x64, .i1⟩
  | 45 => ⟨S_, .f32⟩
  | 46 => ⟨S_, .f32⟩
  | 47 => ⟨S16384x64, .f32⟩
  | 48 => ⟨S16384x64, .f32⟩
  | 49 => ⟨S_, .i32⟩
  | 50 => ⟨S_, .i32⟩
  | 51 => ⟨S_, .i32⟩
  | 52 => ⟨S16384x64, .i32⟩
  | 53 => ⟨S16384x64, .i32⟩
  | 54 => ⟨S_, .i32⟩
  | 55 => ⟨S16384x64, .i32⟩
  | 56 => ⟨S16384x64, .i32⟩
  | 57 => ⟨S_, .i32⟩
  | 58 => ⟨S_, .i32⟩
  | 59 => ⟨S_, .i32⟩
  | 60 => ⟨S16384x64, .i32⟩
  | 61 => ⟨S16384x64, .i32⟩
  | 62 => ⟨S_, .i32⟩
  | 63 => ⟨S16384x64, .i32⟩
  | 64 => ⟨S16384x64, .i32⟩
  | 65 => ⟨S_, .i32⟩
  | 66 => ⟨S_, .i32⟩
  | 67 => ⟨S_, .i32⟩
  | 68 => ⟨S16384x64, .i32⟩
  | 69 => ⟨S16384x64, .i32⟩
  | 70 => ⟨S_, .i32⟩
  | 71 => ⟨S16384x64, .i32⟩
  | 72 => ⟨S16384x64, .i32⟩
  | 73 => ⟨S_, .i32⟩
  | 74 => ⟨S16384x1, .i32⟩
  | 75 => ⟨S16384x1, .i32⟩
  | 76 => ⟨S16384x64, .i32⟩
  | 77 => ⟨S16384x64, .i32⟩
  | 78 => ⟨S_, .i32⟩
  | 79 => ⟨S16384x64, .i32⟩
  | 80 => ⟨S16384x64, .i32⟩
  | 81 => ⟨S16384x64, .i32⟩
  | 82 => ⟨S_, .i32⟩
  | 83 => ⟨S16384x64, .i32⟩
  | 84 => ⟨S16384x64, .i32⟩
  | 85 => ⟨S16384x64, .i32⟩
  | 86 => ⟨S16384x64x1, .f32⟩
  | 87 => ⟨S16384x64x32, .f32⟩
  | 88 => ⟨S16384x64x32, .f32⟩
  | 89 => ⟨S16384x64x32, .f32⟩
  | 90 => ⟨S1048576, .i32⟩
  | 91 => ⟨S1048576x32, .f32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S1048576x1, .i32⟩
  | 100 => ⟨S262144x32, .f32⟩
  | 101 => ⟨S16384x64x1, .i32⟩
  | 102 => ⟨S16384x64, .i32⟩
  | 103 => ⟨S_, .i32⟩
  | 104 => ⟨S16384x64, .i32⟩
  | 105 => ⟨S16384x64, .i32⟩
  | 106 => ⟨S16384x64x1, .i32⟩
  | 107 => ⟨S16384x64, .i32⟩
  | 108 => ⟨S_, .i32⟩
  | 109 => ⟨S16384x64, .i32⟩
  | 110 => ⟨S16384x64, .i32⟩
  | 111 => ⟨S16384x64x1, .i32⟩
  | 112 => ⟨S16384x64, .i32⟩
  | 113 => ⟨S_, .i32⟩
  | 114 => ⟨S16384x64, .i32⟩
  | 115 => ⟨S16384x64, .i32⟩
  | 116 => ⟨S16384x64x1, .f32⟩
  | 117 => ⟨S16384x64, .f32⟩
  | 118 => ⟨S_, .f32⟩
  | 119 => ⟨S16384x64, .f32⟩
  | 120 => ⟨S16384x64, .f32⟩
  | 121 => ⟨S16384x64x1, .f32⟩
  | 122 => ⟨S16384x64, .f32⟩
  | 123 => ⟨S_, .f32⟩
  | 124 => ⟨S16384x64, .f32⟩
  | 125 => ⟨S16384x64, .f32⟩
  | 126 => ⟨S16384x64x1, .f32⟩
  | 127 => ⟨S16384x64, .f32⟩
  | _ => ⟨S16384x3, .f32⟩

abbrev hbmTy0_4 (i : Nat) : BufTy := match i % 128 with
  | 0 => ⟨S16384x64, .f32⟩
  | 1 => ⟨S16384x64, .f32⟩
  | 2 => ⟨S_, .i32⟩
  | 3 => ⟨S16384x64, .i32⟩
  | 4 => ⟨S16384x64, .i1⟩
  | 5 => ⟨S_, .i32⟩
  | 6 => ⟨S16384x64, .i32⟩
  | 7 => ⟨S16384x64, .i1⟩
  | 8 => ⟨S16384x64, .i1⟩
  | 9 => ⟨S_, .i32⟩
  | 10 => ⟨S16384x64, .i32⟩
  | 11 => ⟨S16384x64, .i1⟩
  | 12 => ⟨S16384x64, .i1⟩
  | 13 => ⟨S_, .i32⟩
  | 14 => ⟨S16384x64, .i32⟩
  | 15 => ⟨S16384x64, .i1⟩
  | 16 => ⟨S16384x64, .i1⟩
  | 17 => ⟨S_, .i32⟩
  | 18 => ⟨S16384x64, .i32⟩
  | 19 => ⟨S16384x64, .i1⟩
  | 20 => ⟨S16384x64, .i1⟩
  | 21 => ⟨S_, .i32⟩
  | 22 => ⟨S16384x64, .i32⟩
  | 23 => ⟨S16384x64, .i1⟩
  | 24 => ⟨S16384x64, .i1⟩
  | 25 => ⟨S_, .f32⟩
  | 26 => ⟨S_, .f32⟩
  | 27 => ⟨S16384x64, .f32⟩
  | 28 => ⟨S16384x64, .f32⟩
  | 29 => ⟨S_, .i32⟩
  | 30 => ⟨S_, .i32⟩
  | 31 => ⟨S_, .i32⟩
  | 32 => ⟨S16384x64, .i32⟩
  | 33 => ⟨S16384x64, .i32⟩
  | 34 => ⟨S_, .i32⟩
  | 35 => ⟨S16384x64, .i32⟩
  | 36 => ⟨S16384x64, .i32⟩
  | 37 => ⟨S_, .i32⟩
  | 38 => ⟨S_, .i32⟩
  | 39 => ⟨S_, .i32⟩
  | 40 => ⟨S16384x64, .i32⟩
  | 41 => ⟨S16384x64, .i32⟩
  | 42 => ⟨S_, .i32⟩
  | 43 => ⟨S16384x64, .i32⟩
  | 44 => ⟨S16384x64, .i32⟩
  | 45 => ⟨S_, .i32⟩
  | 46 => ⟨S_, .i32⟩
  | 47 => ⟨S_, .i32⟩
  | 48 => ⟨S16384x64, .i32⟩
  | 49 => ⟨S16384x64, .i32⟩
  | 50 => ⟨S_, .i32⟩
  | 51 => ⟨S16384x64, .i32⟩
  | 52 => ⟨S16384x64, .i32⟩
  | 53 => ⟨S_, .i32⟩
  | 54 => ⟨S16384x1, .i32⟩
  | 55 => ⟨S16384x1, .i32⟩
  | 56 => ⟨S16384x64, .i32⟩
  | 57 => ⟨S16384x64, .i32⟩
  | 58 => ⟨S_, .i32⟩
  | 59 => ⟨S16384x64, .i32⟩
  | 60 => ⟨S16384x64, .i32⟩
  | 61 => ⟨S16384x64, .i32⟩
  | 62 => ⟨S_, .i32⟩
  | 63 => ⟨S16384x64, .i32⟩
  | 64 => ⟨S16384x64, .i32⟩
  | 65 => ⟨S16384x64, .i32⟩
  | 66 => ⟨S16384x64x1, .f32⟩
  | 67 => ⟨S16384x64x32, .f32⟩
  | 68 => ⟨S16384x64x32, .f32⟩
  | 69 => ⟨S16384x64x32, .f32⟩
  | 70 => ⟨S1048576, .i32⟩
  | 71 => ⟨S1048576x32, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S262144x32, .f32⟩
  | 81 => ⟨S16384x64x1, .i32⟩
  | 82 => ⟨S16384x64, .i32⟩
  | 83 => ⟨S_, .i32⟩
  | 84 => ⟨S16384x64, .i32⟩
  | 85 => ⟨S16384x64, .i32⟩
  | 86 => ⟨S16384x64x1, .i32⟩
  | 87 => ⟨S16384x64, .i32⟩
  | 88 => ⟨S_, .i32⟩
  | 89 => ⟨S16384x64, .i32⟩
  | 90 => ⟨S16384x64, .i32⟩
  | 91 => ⟨S16384x64x1, .i32⟩
  | 92 => ⟨S16384x64, .i32⟩
  | 93 => ⟨S_, .i32⟩
  | 94 => ⟨S16384x64, .i32⟩
  | 95 => ⟨S16384x64, .i32⟩
  | 96 => ⟨S16384x64x1, .f32⟩
  | 97 => ⟨S16384x64, .f32⟩
  | 98 => ⟨S16384x64x1, .f32⟩
  | 99 => ⟨S16384x64, .f32⟩
  | 100 => ⟨S_, .f32⟩
  | 101 => ⟨S16384x64, .f32⟩
  | 102 => ⟨S16384x64, .f32⟩
  | 103 => ⟨S16384x64x1, .f32⟩
  | 104 => ⟨S16384x64, .f32⟩
  | 105 => ⟨S16384x64, .f32⟩
  | 106 => ⟨S16384x64, .f32⟩
  | 107 => ⟨S_, .i32⟩
  | 108 => ⟨S16384x64, .i32⟩
  | 109 => ⟨S16384x64, .i1⟩
  | 110 => ⟨S_, .i32⟩
  | 111 => ⟨S16384x64, .i32⟩
  | 112 => ⟨S16384x64, .i1⟩
  | 113 => ⟨S16384x64, .i1⟩
  | 114 => ⟨S_, .i32⟩
  | 115 => ⟨S16384x64, .i32⟩
  | 116 => ⟨S16384x64, .i1⟩
  | 117 => ⟨S16384x64, .i1⟩
  | 118 => ⟨S_, .i32⟩
  | 119 => ⟨S16384x64, .i32⟩
  | 120 => ⟨S16384x64, .i1⟩
  | 121 => ⟨S16384x64, .i1⟩
  | 122 => ⟨S_, .i32⟩
  | 123 => ⟨S16384x64, .i32⟩
  | 124 => ⟨S16384x64, .i1⟩
  | 125 => ⟨S16384x64, .i1⟩
  | 126 => ⟨S_, .i32⟩
  | 127 => ⟨S16384x64, .i32⟩
  | _ => ⟨S16384x3, .f32⟩

abbrev hbmTy0_5 (i : Nat) : BufTy := match i % 128 with
  | 0 => ⟨S16384x64, .i1⟩
  | 1 => ⟨S16384x64, .i1⟩
  | 2 => ⟨S_, .f32⟩
  | 3 => ⟨S_, .f32⟩
  | 4 => ⟨S16384x64, .f32⟩
  | 5 => ⟨S16384x64, .f32⟩
  | 6 => ⟨S_, .i32⟩
  | 7 => ⟨S_, .i32⟩
  | 8 => ⟨S_, .i32⟩
  | 9 => ⟨S16384x64, .i32⟩
  | 10 => ⟨S16384x64, .i32⟩
  | 11 => ⟨S_, .i32⟩
  | 12 => ⟨S16384x64, .i32⟩
  | 13 => ⟨S16384x64, .i32⟩
  | 14 => ⟨S_, .i32⟩
  | 15 => ⟨S_, .i32⟩
  | 16 => ⟨S_, .i32⟩
  | 17 => ⟨S16384x64, .i32⟩
  | 18 => ⟨S16384x64, .i32⟩
  | 19 => ⟨S_, .i32⟩
  | 20 => ⟨S16384x64, .i32⟩
  | 21 => ⟨S16384x64, .i32⟩
  | 22 => ⟨S_, .i32⟩
  | 23 => ⟨S_, .i32⟩
  | 24 => ⟨S_, .i32⟩
  | 25 => ⟨S16384x64, .i32⟩
  | 26 => ⟨S16384x64, .i32⟩
  | 27 => ⟨S_, .i32⟩
  | 28 => ⟨S16384x64, .i32⟩
  | 29 => ⟨S16384x64, .i32⟩
  | 30 => ⟨S_, .i32⟩
  | 31 => ⟨S16384x1, .i32⟩
  | 32 => ⟨S16384x1, .i32⟩
  | 33 => ⟨S16384x64, .i32⟩
  | 34 => ⟨S16384x64, .i32⟩
  | 35 => ⟨S_, .i32⟩
  | 36 => ⟨S16384x64, .i32⟩
  | 37 => ⟨S16384x64, .i32⟩
  | 38 => ⟨S16384x64, .i32⟩
  | 39 => ⟨S_, .i32⟩
  | 40 => ⟨S16384x64, .i32⟩
  | 41 => ⟨S16384x64, .i32⟩
  | 42 => ⟨S16384x64, .i32⟩
  | 43 => ⟨S16384x64x1, .f32⟩
  | 44 => ⟨S16384x64x32, .f32⟩
  | 45 => ⟨S16384x64x32, .f32⟩
  | 46 => ⟨S16384x64x32, .f32⟩
  | 47 => ⟨S1048576, .i32⟩
  | 48 => ⟨S1048576x32, .f32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S1048576x1, .i32⟩
  | 57 => ⟨S262144x32, .f32⟩
  | 58 => ⟨S16384x64x1, .i32⟩
  | 59 => ⟨S16384x64, .i32⟩
  | 60 => ⟨S_, .i32⟩
  | 61 => ⟨S16384x64, .i32⟩
  | 62 => ⟨S16384x64, .i32⟩
  | 63 => ⟨S16384x64x1, .i32⟩
  | 64 => ⟨S16384x64, .i32⟩
  | 65 => ⟨S_, .i32⟩
  | 66 => ⟨S16384x64, .i32⟩
  | 67 => ⟨S16384x64, .i32⟩
  | 68 => ⟨S16384x64x1, .i32⟩
  | 69 => ⟨S16384x64, .i32⟩
  | 70 => ⟨S_, .i32⟩
  | 71 => ⟨S16384x64, .i32⟩
  | 72 => ⟨S16384x64, .i32⟩
  | 73 => ⟨S16384x64x1, .f32⟩
  | 74 => ⟨S16384x64, .f32⟩
  | 75 => ⟨S_, .f32⟩
  | 76 => ⟨S16384x64, .f32⟩
  | 77 => ⟨S16384x64, .f32⟩
  | 78 => ⟨S16384x64x1, .f32⟩
  | 79 => ⟨S16384x64, .f32⟩
  | 80 => ⟨S16384x64x1, .f32⟩
  | 81 => ⟨S16384x64, .f32⟩
  | 82 => ⟨S16384x64, .f32⟩
  | 83 => ⟨S16384x64, .f32⟩
  | 84 => ⟨S_, .i32⟩
  | 85 => ⟨S16384x64, .i32⟩
  | 86 => ⟨S16384x64, .i1⟩
  | 87 => ⟨S_, .i32⟩
  | 88 => ⟨S16384x64, .i32⟩
  | 89 => ⟨S16384x64, .i1⟩
  | 90 => ⟨S16384x64, .i1⟩
  | 91 => ⟨S_, .i32⟩
  | 92 => ⟨S16384x64, .i32⟩
  | 93 => ⟨S16384x64, .i1⟩
  | 94 => ⟨S16384x64, .i1⟩
  | 95 => ⟨S_, .i32⟩
  | 96 => ⟨S16384x64, .i32⟩
  | 97 => ⟨S16384x64, .i1⟩
  | 98 => ⟨S16384x64, .i1⟩
  | 99 => ⟨S_, .i32⟩
  | 100 => ⟨S16384x64, .i32⟩
  | 101 => ⟨S16384x64, .i1⟩
  | 102 => ⟨S16384x64, .i1⟩
  | 103 => ⟨S_, .i32⟩
  | 104 => ⟨S16384x64, .i32⟩
  | 105 => ⟨S16384x64, .i1⟩
  | 106 => ⟨S16384x64, .i1⟩
  | 107 => ⟨S_, .f32⟩
  | 108 => ⟨S_, .f32⟩
  | 109 => ⟨S16384x64, .f32⟩
  | 110 => ⟨S16384x64, .f32⟩
  | 111 => ⟨S_, .i32⟩
  | 112 => ⟨S_, .i32⟩
  | 113 => ⟨S_, .i32⟩
  | 114 => ⟨S16384x64, .i32⟩
  | 115 => ⟨S16384x64, .i32⟩
  | 116 => ⟨S_, .i32⟩
  | 117 => ⟨S16384x64, .i32⟩
  | 118 => ⟨S16384x64, .i32⟩
  | 119 => ⟨S_, .i32⟩
  | 120 => ⟨S_, .i32⟩
  | 121 => ⟨S_, .i32⟩
  | 122 => ⟨S16384x64, .i32⟩
  | 123 => ⟨S16384x64, .i32⟩
  | 124 => ⟨S_, .i32⟩
  | 125 => ⟨S16384x64, .i32⟩
  | 126 => ⟨S16384x64, .i32⟩
  | 127 => ⟨S_, .i32⟩
  | _ => ⟨S16384x3, .f32⟩

abbrev hbmTy0_6 (i : Nat) : BufTy := match i % 128 with
  | 0 => ⟨S_, .i32⟩
  | 1 => ⟨S_, .i32⟩
  | 2 => ⟨S16384x64, .i32⟩
  | 3 => ⟨S16384x64, .i32⟩
  | 4 => ⟨S_, .i32⟩
  | 5 => ⟨S16384x64, .i32⟩
  | 6 => ⟨S16384x64, .i32⟩
  | 7 => ⟨S_, .i32⟩
  | 8 => ⟨S16384x1, .i32⟩
  | 9 => ⟨S16384x1, .i32⟩
  | 10 => ⟨S16384x64, .i32⟩
  | 11 => ⟨S16384x64, .i32⟩
  | 12 => ⟨S_, .i32⟩
  | 13 => ⟨S16384x64, .i32⟩
  | 14 => ⟨S16384x64, .i32⟩
  | 15 => ⟨S16384x64, .i32⟩
  | 16 => ⟨S_, .i32⟩
  | 17 => ⟨S16384x64, .i32⟩
  | 18 => ⟨S16384x64, .i32⟩
  | 19 => ⟨S16384x64, .i32⟩
  | 20 => ⟨S16384x64x1, .f32⟩
  | 21 => ⟨S16384x64x32, .f32⟩
  | 22 => ⟨S16384x64x32, .f32⟩
  | 23 => ⟨S16384x64x32, .f32⟩
  | 24 => ⟨S1048576, .i32⟩
  | 25 => ⟨S1048576x32, .f32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S1048576x1, .i32⟩
  | 34 => ⟨S262144x32, .f32⟩
  | 35 => ⟨S16384x64x1, .i32⟩
  | 36 => ⟨S16384x64, .i32⟩
  | 37 => ⟨S_, .i32⟩
  | 38 => ⟨S16384x64, .i32⟩
  | 39 => ⟨S16384x64, .i32⟩
  | 40 => ⟨S16384x64x1, .i32⟩
  | 41 => ⟨S16384x64, .i32⟩
  | 42 => ⟨S_, .i32⟩
  | 43 => ⟨S16384x64, .i32⟩
  | 44 => ⟨S16384x64, .i32⟩
  | 45 => ⟨S16384x64x1, .i32⟩
  | 46 => ⟨S16384x64, .i32⟩
  | 47 => ⟨S_, .i32⟩
  | 48 => ⟨S16384x64, .i32⟩
  | 49 => ⟨S16384x64, .i32⟩
  | 50 => ⟨S16384x64x1, .f32⟩
  | 51 => ⟨S16384x64, .f32⟩
  | 52 => ⟨S16384x64x1, .f32⟩
  | 53 => ⟨S16384x64, .f32⟩
  | 54 => ⟨S16384x64x1, .f32⟩
  | 55 => ⟨S16384x64, .f32⟩
  | 56 => ⟨S16384x64, .f32⟩
  | 57 => ⟨S16384x64, .f32⟩
  | 58 => ⟨S_, .i32⟩
  | 59 => ⟨S16384x64, .i32⟩
  | 60 => ⟨S16384x64, .i1⟩
  | 61 => ⟨S_, .i32⟩
  | 62 => ⟨S16384x64, .i32⟩
  | 63 => ⟨S16384x64, .i1⟩
  | 64 => ⟨S16384x64, .i1⟩
  | 65 => ⟨S_, .i32⟩
  | 66 => ⟨S16384x64, .i32⟩
  | 67 => ⟨S16384x64, .i1⟩
  | 68 => ⟨S16384x64, .i1⟩
  | 69 => ⟨S_, .i32⟩
  | 70 => ⟨S16384x64, .i32⟩
  | 71 => ⟨S16384x64, .i1⟩
  | 72 => ⟨S16384x64, .i1⟩
  | 73 => ⟨S_, .i32⟩
  | 74 => ⟨S16384x64, .i32⟩
  | 75 => ⟨S16384x64, .i1⟩
  | 76 => ⟨S16384x64, .i1⟩
  | 77 => ⟨S_, .i32⟩
  | 78 => ⟨S16384x64, .i32⟩
  | 79 => ⟨S16384x64, .i1⟩
  | 80 => ⟨S16384x64, .i1⟩
  | 81 => ⟨S_, .f32⟩
  | 82 => ⟨S_, .f32⟩
  | 83 => ⟨S16384x64, .f32⟩
  | 84 => ⟨S16384x64, .f32⟩
  | 85 => ⟨S_, .i32⟩
  | 86 => ⟨S_, .i32⟩
  | 87 => ⟨S_, .i32⟩
  | 88 => ⟨S16384x64, .i32⟩
  | 89 => ⟨S16384x64, .i32⟩
  | 90 => ⟨S_, .i32⟩
  | 91 => ⟨S16384x64, .i32⟩
  | 92 => ⟨S16384x64, .i32⟩
  | 93 => ⟨S_, .i32⟩
  | 94 => ⟨S_, .i32⟩
  | 95 => ⟨S_, .i32⟩
  | 96 => ⟨S16384x64, .i32⟩
  | 97 => ⟨S16384x64, .i32⟩
  | 98 => ⟨S_, .i32⟩
  | 99 => ⟨S16384x64, .i32⟩
  | 100 => ⟨S16384x64, .i32⟩
  | 101 => ⟨S_, .i32⟩
  | 102 => ⟨S_, .i32⟩
  | 103 => ⟨S_, .i32⟩
  | 104 => ⟨S16384x64, .i32⟩
  | 105 => ⟨S16384x64, .i32⟩
  | 106 => ⟨S_, .i32⟩
  | 107 => ⟨S16384x64, .i32⟩
  | 108 => ⟨S16384x64, .i32⟩
  | 109 => ⟨S_, .i32⟩
  | 110 => ⟨S16384x1, .i32⟩
  | 111 => ⟨S16384x1, .i32⟩
  | 112 => ⟨S16384x64, .i32⟩
  | 113 => ⟨S16384x64, .i32⟩
  | 114 => ⟨S_, .i32⟩
  | 115 => ⟨S16384x64, .i32⟩
  | 116 => ⟨S16384x64, .i32⟩
  | 117 => ⟨S16384x64, .i32⟩
  | 118 => ⟨S_, .i32⟩
  | 119 => ⟨S16384x64, .i32⟩
  | 120 => ⟨S16384x64, .i32⟩
  | 121 => ⟨S16384x64, .i32⟩
  | 122 => ⟨S16384x64x1, .f32⟩
  | 123 => ⟨S16384x64x32, .f32⟩
  | 124 => ⟨S16384x64x32, .f32⟩
  | 125 => ⟨S16384x64x32, .f32⟩
  | 126 => ⟨S1048576, .i32⟩
  | 127 => ⟨S1048576x32, .f32⟩
  | _ => ⟨S16384x3, .f32⟩

abbrev hbmTy0_7 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S262144x32, .f32⟩
  | 9 => ⟨S1x64x64x64x32, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_call0_v0 : Ref sig .tc := ⟨.hbm, 109, rfl⟩
abbrev main_call0_v1 : Ref sig .tc := ⟨.hbm, 110, rfl⟩
abbrev main_v83 : Ref sig .tc := ⟨.hbm, 111, rfl⟩
abbrev main_c_18 : Ref sig .tc := ⟨.hbm, 112, rfl⟩
abbrev main_c_19 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v84 : Ref sig .tc := ⟨.hbm, 119, rfl⟩
abbrev main_c_20 : Ref sig .tc := ⟨.hbm, 120, rfl⟩
abbrev main_c_21 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v85 : Ref sig .tc := ⟨.hbm, 127, rfl⟩
abbrev main_c_22 : Ref sig .tc := ⟨.hbm, 128, rfl⟩
abbrev main_c_23 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v86 : Ref sig .tc := ⟨.hbm, 135, rfl⟩
abbrev main_c_24 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_25 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_26 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_27 : Ref sig .tc := ⟨.hbm, 155, rfl⟩
abbrev main_v103 : Ref sig .tc := ⟨.hbm, 156, rfl⟩
abbrev main_v104 : Ref sig .tc := ⟨.hbm, 157, rfl⟩
abbrev main_c_28 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_29 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_30 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_c_31 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_32 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_33 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_34 : Ref sig .tc := ⟨.hbm, 193, rfl⟩
abbrev main_v134 : Ref sig .tc := ⟨.hbm, 194, rfl⟩
abbrev main_v135 : Ref sig .tc := ⟨.hbm, 195, rfl⟩
abbrev main_c_35 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_36 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_37 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_38 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_c_39 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_40 : Ref sig .tc := ⟨.hbm, 216, rfl⟩
abbrev main_call4_v0 : Ref sig .tc := ⟨.hbm, 217, rfl⟩
abbrev main_call4_v1 : Ref sig .tc := ⟨.hbm, 218, rfl⟩
abbrev main_v151 : Ref sig .tc := ⟨.hbm, 219, rfl⟩
abbrev main_c_41 : Ref sig .tc := ⟨.hbm, 220, rfl⟩
abbrev main_c_42 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_v152 : Ref sig .tc := ⟨.hbm, 227, rfl⟩
abbrev main_c_43 : Ref sig .tc := ⟨.hbm, 228, rfl⟩
abbrev main_c_44 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v153 : Ref sig .tc := ⟨.hbm, 235, rfl⟩
abbrev main_c_45 : Ref sig .tc := ⟨.hbm, 236, rfl⟩
abbrev main_c_46 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_v154 : Ref sig .tc := ⟨.hbm, 243, rfl⟩
abbrev main_c_47 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_c_48 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_c_49 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_c_50 : Ref sig .tc := ⟨.hbm, 263, rfl⟩
abbrev main_v171 : Ref sig .tc := ⟨.hbm, 264, rfl⟩
abbrev main_v172 : Ref sig .tc := ⟨.hbm, 265, rfl⟩
abbrev main_c_51 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_c_52 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_c_53 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_c_54 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_55 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_cst_56 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_c_57 : Ref sig .tc := ⟨.hbm, 301, rfl⟩
abbrev main_v202 : Ref sig .tc := ⟨.hbm, 302, rfl⟩
abbrev main_v203 : Ref sig .tc := ⟨.hbm, 303, rfl⟩
abbrev main_c_58 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_c_59 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_c_60 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_c_61 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_c_62 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_cst_63 : Ref sig .tc := ⟨.hbm, 324, rfl⟩
abbrev main_call8_v0 : Ref sig .tc := ⟨.hbm, 325, rfl⟩
abbrev main_call8_v1 : Ref sig .tc := ⟨.hbm, 326, rfl⟩
abbrev main_v219 : Ref sig .tc := ⟨.hbm, 327, rfl⟩
abbrev main_c_64 : Ref sig .tc := ⟨.hbm, 328, rfl⟩
abbrev main_c_65 : Ref sig .tc := ⟨.hbm, 329, rfl⟩
abbrev main_call9_v0 : Ref sig .tc := ⟨.hbm, 330, rfl⟩
abbrev main_call9_v1 : Ref sig .tc := ⟨.hbm, 331, rfl⟩
abbrev main_call9_v2 : Ref sig .tc := ⟨.hbm, 332, rfl⟩
abbrev main_call9_v3 : Ref sig .tc := ⟨.hbm, 333, rfl⟩
abbrev main_call9_v4 : Ref sig .tc := ⟨.hbm, 334, rfl⟩
abbrev main_v220 : Ref sig .tc := ⟨.hbm, 335, rfl⟩
abbrev main_c_66 : Ref sig .tc := ⟨.hbm, 336, rfl⟩
abbrev main_c_67 : Ref sig .tc := ⟨.hbm, 337, rfl⟩
abbrev main_call10_v0 : Ref sig .tc := ⟨.hbm, 338, rfl⟩
abbrev main_call10_v1 : Ref sig .tc := ⟨.hbm, 339, rfl⟩
abbrev main_call10_v2 : Ref sig .tc := ⟨.hbm, 340, rfl⟩
abbrev main_call10_v3 : Ref sig .tc := ⟨.hbm, 341, rfl⟩
abbrev main_call10_v4 : Ref sig .tc := ⟨.hbm, 342, rfl⟩
abbrev main_v221 : Ref sig .tc := ⟨.hbm, 343, rfl⟩
abbrev main_c_68 : Ref sig .tc := ⟨.hbm, 344, rfl⟩
abbrev main_c_69 : Ref sig .tc := ⟨.hbm, 345, rfl⟩
abbrev main_call11_v0 : Ref sig .tc := ⟨.hbm, 346, rfl⟩
abbrev main_call11_v1 : Ref sig .tc := ⟨.hbm, 347, rfl⟩
abbrev main_call11_v2 : Ref sig .tc := ⟨.hbm, 348, rfl⟩
abbrev main_call11_v3 : Ref sig .tc := ⟨.hbm, 349, rfl⟩
abbrev main_call11_v4 : Ref sig .tc := ⟨.hbm, 350, rfl⟩
abbrev main_v222 : Ref sig .tc := ⟨.hbm, 351, rfl⟩
abbrev main_c_70 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_c_71 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_c_72 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_c_73 : Ref sig .tc := ⟨.hbm, 371, rfl⟩
abbrev main_v239 : Ref sig .tc := ⟨.hbm, 372, rfl⟩
abbrev main_v240 : Ref sig .tc := ⟨.hbm, 373, rfl⟩
abbrev main_c_74 : Ref sig .tc := ⟨.hbm, 374, rfl⟩
abbrev main_v241 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_c_75 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_c_76 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_c_77 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_cst_78 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_c_79 : Ref sig .tc := ⟨.hbm, 406, rfl⟩
abbrev main_v268 : Ref sig .tc := ⟨.hbm, 407, rfl⟩
abbrev main_v269 : Ref sig .tc := ⟨.hbm, 408, rfl⟩
abbrev main_c_80 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_c_81 : Ref sig .tc := ⟨.hbm, 413, rfl⟩
abbrev main_v273 : Ref sig .tc := ⟨.hbm, 414, rfl⟩
abbrev main_v274 : Ref sig .tc := ⟨.hbm, 415, rfl⟩
abbrev main_v275 : Ref sig .tc := ⟨.hbm, 416, rfl⟩
abbrev main_c_82 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_c_83 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_c_84 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_cst_85 : Ref sig .tc := ⟨.hbm, 429, rfl⟩
abbrev main_call12_v0 : Ref sig .tc := ⟨.hbm, 430, rfl⟩
abbrev main_call12_v1 : Ref sig .tc := ⟨.hbm, 431, rfl⟩
abbrev main_v285 : Ref sig .tc := ⟨.hbm, 432, rfl⟩
abbrev main_c_86 : Ref sig .tc := ⟨.hbm, 433, rfl⟩
abbrev main_c_87 : Ref sig .tc := ⟨.hbm, 434, rfl⟩
abbrev main_call13_v0 : Ref sig .tc := ⟨.hbm, 435, rfl⟩
abbrev main_call13_v1 : Ref sig .tc := ⟨.hbm, 436, rfl⟩
abbrev main_call13_v2 : Ref sig .tc := ⟨.hbm, 437, rfl⟩
abbrev main_call13_v3 : Ref sig .tc := ⟨.hbm, 438, rfl⟩
abbrev main_call13_v4 : Ref sig .tc := ⟨.hbm, 439, rfl⟩
abbrev main_v286 : Ref sig .tc := ⟨.hbm, 440, rfl⟩
abbrev main_c_88 : Ref sig .tc := ⟨.hbm, 441, rfl⟩
abbrev main_c_89 : Ref sig .tc := ⟨.hbm, 442, rfl⟩
abbrev main_call14_v0 : Ref sig .tc := ⟨.hbm, 443, rfl⟩
abbrev main_call14_v1 : Ref sig .tc := ⟨.hbm, 444, rfl⟩
abbrev main_call14_v2 : Ref sig .tc := ⟨.hbm, 445, rfl⟩
abbrev main_call14_v3 : Ref sig .tc := ⟨.hbm, 446, rfl⟩
abbrev main_call14_v4 : Ref sig .tc := ⟨.hbm, 447, rfl⟩
abbrev main_v287 : Ref sig .tc := ⟨.hbm, 448, rfl⟩
abbrev main_c_90 : Ref sig .tc := ⟨.hbm, 449, rfl⟩
abbrev main_c_91 : Ref sig .tc := ⟨.hbm, 450, rfl⟩
abbrev main_call15_v0 : Ref sig .tc := ⟨.hbm, 451, rfl⟩
abbrev main_call15_v1 : Ref sig .tc := ⟨.hbm, 452, rfl⟩
abbrev main_call15_v2 : Ref sig .tc := ⟨.hbm, 453, rfl⟩
abbrev main_call15_v3 : Ref sig .tc := ⟨.hbm, 454, rfl⟩
abbrev main_call15_v4 : Ref sig .tc := ⟨.hbm, 455, rfl⟩
abbrev main_v288 : Ref sig .tc := ⟨.hbm, 456, rfl⟩
abbrev main_c_92 : Ref sig .tc := ⟨.hbm, 457, rfl⟩
abbrev main_v289 : Ref sig .tc := ⟨.hbm, 458, rfl⟩
abbrev main_v290 : Ref sig .tc := ⟨.hbm, 459, rfl⟩
abbrev main_v291 : Ref sig .tc := ⟨.hbm, 460, rfl⟩
abbrev main_v292 : Ref sig .tc := ⟨.hbm, 461, rfl⟩
abbrev main_c_93 : Ref sig .tc := ⟨.hbm, 462, rfl⟩
abbrev main_v293 : Ref sig .tc := ⟨.hbm, 463, rfl⟩
abbrev main_v294 : Ref sig .tc := ⟨.hbm, 464, rfl⟩
abbrev main_v295 : Ref sig .tc := ⟨.hbm, 465, rfl⟩
abbrev main_c_94 : Ref sig .tc := ⟨.hbm, 466, rfl⟩
abbrev main_v296 : Ref sig .tc := ⟨.hbm, 467, rfl⟩
abbrev main_v297 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_v301 : Ref sig .tc := ⟨.hbm, 472, rfl⟩
abbrev main_v302 : Ref sig .tc := ⟨.hbm, 473, rfl⟩
abbrev main_v303 : Ref sig .tc := ⟨.hbm, 474, rfl⟩
abbrev main_v304 : Ref sig .tc := ⟨.hbm, 475, rfl⟩
abbrev main_c_95 : Ref sig .tc := ⟨.hbm, 476, rfl⟩
abbrev main_v305 : Ref sig .tc := ⟨.hbm, 477, rfl⟩
abbrev main_v306 : Ref sig .tc := ⟨.hbm, 478, rfl⟩
abbrev main_c_96 : Ref sig .tc := ⟨.hbm, 479, rfl⟩
abbrev main_v307 : Ref sig .tc := ⟨.hbm, 480, rfl⟩
abbrev main_v308 : Ref sig .tc := ⟨.hbm, 481, rfl⟩
abbrev main_v309 : Ref sig .tc := ⟨.hbm, 482, rfl⟩
abbrev main_v310 : Ref sig .tc := ⟨.hbm, 483, rfl⟩
abbrev main_v311 : Ref sig .tc := ⟨.hbm, 484, rfl⟩
abbrev main_v312 : Ref sig .tc := ⟨.hbm, 485, rfl⟩
abbrev main_v313 : Ref sig .tc := ⟨.hbm, 486, rfl⟩
abbrev main_c_97 : Ref sig .tc := ⟨.hbm, 487, rfl⟩
abbrev main_v314 : Ref sig .tc := ⟨.hbm, 488, rfl⟩
abbrev main_v315 : Ref sig .tc := ⟨.hbm, 489, rfl⟩
abbrev main_v316 : Ref sig .tc := ⟨.hbm, 490, rfl⟩
abbrev main_v317 : Ref sig .tc := ⟨.hbm, 491, rfl⟩
abbrev main_c_98 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_c_99 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_cst_100 : Ref sig .tc := ⟨.hbm, 502, rfl⟩
abbrev main_v326 : Ref sig .tc := ⟨.hbm, 503, rfl⟩
abbrev main_v327 : Ref sig .tc := ⟨.hbm, 504, rfl⟩
abbrev main_v328 : Ref sig .tc := ⟨.hbm, 505, rfl⟩
abbrev main_v329 : Ref sig .tc := ⟨.hbm, 506, rfl⟩
abbrev main_cst_101 : Ref sig .tc := ⟨.hbm, 507, rfl⟩
abbrev main_v330 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_v334 : Ref sig .tc := ⟨.hbm, 512, rfl⟩
abbrev main_v335 : Ref sig .tc := ⟨.hbm, 513, rfl⟩
abbrev main_c_102 : Ref sig .tc := ⟨.hbm, 514, rfl⟩
abbrev main_v336 : Ref sig .tc := ⟨.hbm, 515, rfl⟩
abbrev main_v337 : Ref sig .tc := ⟨.hbm, 516, rfl⟩
abbrev main_c_103 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_c_104 : Ref sig .tc := ⟨.hbm, 521, rfl⟩
abbrev main_v341 : Ref sig .tc := ⟨.hbm, 522, rfl⟩
abbrev main_v342 : Ref sig .tc := ⟨.hbm, 523, rfl⟩
abbrev main_v343 : Ref sig .tc := ⟨.hbm, 524, rfl⟩
abbrev main_c_105 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_c_106 : Ref sig .tc := ⟨.hbm, 529, rfl⟩
abbrev main_v347 : Ref sig .tc := ⟨.hbm, 530, rfl⟩
abbrev main_v348 : Ref sig .tc := ⟨.hbm, 531, rfl⟩
abbrev main_v349 : Ref sig .tc := ⟨.hbm, 532, rfl⟩
abbrev main_c_107 : Ref sig .tc := ⟨.hbm, 533, rfl⟩
abbrev main_v350 : Ref sig .tc := ⟨.hbm, 534, rfl⟩
abbrev main_v351 : Ref sig .tc := ⟨.hbm, 535, rfl⟩
abbrev main_v352 : Ref sig .tc := ⟨.hbm, 536, rfl⟩
abbrev main_cst_108 : Ref sig .tc := ⟨.hbm, 537, rfl⟩
abbrev main_call16_v0 : Ref sig .tc := ⟨.hbm, 538, rfl⟩
abbrev main_call16_v1 : Ref sig .tc := ⟨.hbm, 539, rfl⟩
abbrev main_v353 : Ref sig .tc := ⟨.hbm, 540, rfl⟩
abbrev main_c_109 : Ref sig .tc := ⟨.hbm, 541, rfl⟩
abbrev main_c_110 : Ref sig .tc := ⟨.hbm, 542, rfl⟩
abbrev main_call17_v0 : Ref sig .tc := ⟨.hbm, 543, rfl⟩
abbrev main_call17_v1 : Ref sig .tc := ⟨.hbm, 544, rfl⟩
abbrev main_call17_v2 : Ref sig .tc := ⟨.hbm, 545, rfl⟩
abbrev main_call17_v3 : Ref sig .tc := ⟨.hbm, 546, rfl⟩
abbrev main_call17_v4 : Ref sig .tc := ⟨.hbm, 547, rfl⟩
abbrev main_v354 : Ref sig .tc := ⟨.hbm, 548, rfl⟩
abbrev main_c_111 : Ref sig .tc := ⟨.hbm, 549, rfl⟩
abbrev main_c_112 : Ref sig .tc := ⟨.hbm, 550, rfl⟩
abbrev main_call18_v0 : Ref sig .tc := ⟨.hbm, 551, rfl⟩
abbrev main_call18_v1 : Ref sig .tc := ⟨.hbm, 552, rfl⟩
abbrev main_call18_v2 : Ref sig .tc := ⟨.hbm, 553, rfl⟩
abbrev main_call18_v3 : Ref sig .tc := ⟨.hbm, 554, rfl⟩
abbrev main_call18_v4 : Ref sig .tc := ⟨.hbm, 555, rfl⟩
abbrev main_v355 : Ref sig .tc := ⟨.hbm, 556, rfl⟩
abbrev main_c_113 : Ref sig .tc := ⟨.hbm, 557, rfl⟩
abbrev main_c_114 : Ref sig .tc := ⟨.hbm, 558, rfl⟩
abbrev main_call19_v0 : Ref sig .tc := ⟨.hbm, 559, rfl⟩
abbrev main_call19_v1 : Ref sig .tc := ⟨.hbm, 560, rfl⟩
abbrev main_call19_v2 : Ref sig .tc := ⟨.hbm, 561, rfl⟩
abbrev main_call19_v3 : Ref sig .tc := ⟨.hbm, 562, rfl⟩
abbrev main_call19_v4 : Ref sig .tc := ⟨.hbm, 563, rfl⟩
abbrev main_v356 : Ref sig .tc := ⟨.hbm, 564, rfl⟩
abbrev main_c_115 : Ref sig .tc := ⟨.hbm, 565, rfl⟩
abbrev main_v357 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_c_116 : Ref sig .tc := ⟨.hbm, 570, rfl⟩
abbrev main_v361 : Ref sig .tc := ⟨.hbm, 571, rfl⟩
abbrev main_v362 : Ref sig .tc := ⟨.hbm, 572, rfl⟩
abbrev main_v363 : Ref sig .tc := ⟨.hbm, 573, rfl⟩
abbrev main_c_117 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_v367 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_v371 : Ref sig .tc := ⟨.hbm, 582, rfl⟩
abbrev main_v372 : Ref sig .tc := ⟨.hbm, 583, rfl⟩
abbrev main_c_118 : Ref sig .tc := ⟨.hbm, 584, rfl⟩
abbrev main_v373 : Ref sig .tc := ⟨.hbm, 585, rfl⟩
abbrev main_v374 : Ref sig .tc := ⟨.hbm, 586, rfl⟩
abbrev main_c_119 : Ref sig .tc := ⟨.hbm, 587, rfl⟩
abbrev main_v375 : Ref sig .tc := ⟨.hbm, 588, rfl⟩
abbrev main_v376 : Ref sig .tc := ⟨.hbm, 589, rfl⟩
abbrev main_v377 : Ref sig .tc := ⟨.hbm, 590, rfl⟩
abbrev main_v378 : Ref sig .tc := ⟨.hbm, 591, rfl⟩
abbrev main_v379 : Ref sig .tc := ⟨.hbm, 592, rfl⟩
abbrev main_v380 : Ref sig .tc := ⟨.hbm, 593, rfl⟩
abbrev main_v381 : Ref sig .tc := ⟨.hbm, 594, rfl⟩
abbrev main_c_120 : Ref sig .tc := ⟨.hbm, 595, rfl⟩
abbrev main_v382 : Ref sig .tc := ⟨.hbm, 596, rfl⟩
abbrev main_v383 : Ref sig .tc := ⟨.hbm, 597, rfl⟩
abbrev main_v384 : Ref sig .tc := ⟨.hbm, 598, rfl⟩
abbrev main_v385 : Ref sig .tc := ⟨.hbm, 599, rfl⟩
abbrev main_c_121 : Ref sig .tc := ⟨.hbm, 600, rfl⟩
abbrev main_v386 : Ref sig .tc := ⟨.hbm, 601, rfl⟩
abbrev main_v387 : Ref sig .tc := ⟨.hbm, 602, rfl⟩
abbrev main_v388 : Ref sig .tc := ⟨.hbm, 603, rfl⟩
abbrev main_v389 : Ref sig .tc := ⟨.hbm, 604, rfl⟩
abbrev main_c_122 : Ref sig .tc := ⟨.hbm, 605, rfl⟩
abbrev main_v390 : Ref sig .tc := ⟨.hbm, 606, rfl⟩
abbrev main_v391 : Ref sig .tc := ⟨.hbm, 607, rfl⟩
abbrev main_v392 : Ref sig .tc := ⟨.hbm, 608, rfl⟩
abbrev main_v393 : Ref sig .tc := ⟨.hbm, 609, rfl⟩
abbrev main_v394 : Ref sig .tc := ⟨.hbm, 610, rfl⟩
abbrev main_v395 : Ref sig .tc := ⟨.hbm, 611, rfl⟩
abbrev main_cst_123 : Ref sig .tc := ⟨.hbm, 612, rfl⟩
abbrev main_v396 : Ref sig .tc := ⟨.hbm, 613, rfl⟩
abbrev main_v397 : Ref sig .tc := ⟨.hbm, 614, rfl⟩
abbrev main_v398 : Ref sig .tc := ⟨.hbm, 615, rfl⟩
abbrev main_v399 : Ref sig .tc := ⟨.hbm, 616, rfl⟩
abbrev main_v400 : Ref sig .tc := ⟨.hbm, 617, rfl⟩
abbrev main_v401 : Ref sig .tc := ⟨.hbm, 618, rfl⟩
abbrev main_c_124 : Ref sig .tc := ⟨.hbm, 619, rfl⟩
abbrev main_v402 : Ref sig .tc := ⟨.hbm, 620, rfl⟩
abbrev main_v403 : Ref sig .tc := ⟨.hbm, 621, rfl⟩
abbrev main_c_125 : Ref sig .tc := ⟨.hbm, 622, rfl⟩
abbrev main_v404 : Ref sig .tc := ⟨.hbm, 623, rfl⟩
abbrev main_v405 : Ref sig .tc := ⟨.hbm, 624, rfl⟩
abbrev main_v406 : Ref sig .tc := ⟨.hbm, 625, rfl⟩
abbrev main_c_126 : Ref sig .tc := ⟨.hbm, 626, rfl⟩
abbrev main_v407 : Ref sig .tc := ⟨.hbm, 627, rfl⟩
abbrev main_v408 : Ref sig .tc := ⟨.hbm, 628, rfl⟩
abbrev main_v409 : Ref sig .tc := ⟨.hbm, 629, rfl⟩
abbrev main_c_127 : Ref sig .tc := ⟨.hbm, 630, rfl⟩
abbrev main_v410 : Ref sig .tc := ⟨.hbm, 631, rfl⟩
abbrev main_v411 : Ref sig .tc := ⟨.hbm, 632, rfl⟩
abbrev main_v412 : Ref sig .tc := ⟨.hbm, 633, rfl⟩
abbrev main_c_128 : Ref sig .tc := ⟨.hbm, 634, rfl⟩
abbrev main_v413 : Ref sig .tc := ⟨.hbm, 635, rfl⟩
abbrev main_v414 : Ref sig .tc := ⟨.hbm, 636, rfl⟩
abbrev main_v415 : Ref sig .tc := ⟨.hbm, 637, rfl⟩
abbrev main_c_129 : Ref sig .tc := ⟨.hbm, 638, rfl⟩
abbrev main_v416 : Ref sig .tc := ⟨.hbm, 639, rfl⟩
abbrev main_v417 : Ref sig .tc := ⟨.hbm, 640, rfl⟩
abbrev main_v418 : Ref sig .tc := ⟨.hbm, 641, rfl⟩
abbrev main_cst_130 : Ref sig .tc := ⟨.hbm, 642, rfl⟩
abbrev main_call20_v0 : Ref sig .tc := ⟨.hbm, 643, rfl⟩
abbrev main_call20_v1 : Ref sig .tc := ⟨.hbm, 644, rfl⟩
abbrev main_v419 : Ref sig .tc := ⟨.hbm, 645, rfl⟩
abbrev main_c_131 : Ref sig .tc := ⟨.hbm, 646, rfl⟩
abbrev main_c_132 : Ref sig .tc := ⟨.hbm, 647, rfl⟩
abbrev main_call21_v0 : Ref sig .tc := ⟨.hbm, 648, rfl⟩
abbrev main_call21_v1 : Ref sig .tc := ⟨.hbm, 649, rfl⟩
abbrev main_call21_v2 : Ref sig .tc := ⟨.hbm, 650, rfl⟩
abbrev main_call21_v3 : Ref sig .tc := ⟨.hbm, 651, rfl⟩
abbrev main_call21_v4 : Ref sig .tc := ⟨.hbm, 652, rfl⟩
abbrev main_v420 : Ref sig .tc := ⟨.hbm, 653, rfl⟩
abbrev main_c_133 : Ref sig .tc := ⟨.hbm, 654, rfl⟩
abbrev main_c_134 : Ref sig .tc := ⟨.hbm, 655, rfl⟩
abbrev main_call22_v0 : Ref sig .tc := ⟨.hbm, 656, rfl⟩
abbrev main_call22_v1 : Ref sig .tc := ⟨.hbm, 657, rfl⟩
abbrev main_call22_v2 : Ref sig .tc := ⟨.hbm, 658, rfl⟩
abbrev main_call22_v3 : Ref sig .tc := ⟨.hbm, 659, rfl⟩
abbrev main_call22_v4 : Ref sig .tc := ⟨.hbm, 660, rfl⟩
abbrev main_v421 : Ref sig .tc := ⟨.hbm, 661, rfl⟩
abbrev main_c_135 : Ref sig .tc := ⟨.hbm, 662, rfl⟩
abbrev main_c_136 : Ref sig .tc := ⟨.hbm, 663, rfl⟩
abbrev main_call23_v0 : Ref sig .tc := ⟨.hbm, 664, rfl⟩
abbrev main_call23_v1 : Ref sig .tc := ⟨.hbm, 665, rfl⟩
abbrev main_call23_v2 : Ref sig .tc := ⟨.hbm, 666, rfl⟩
abbrev main_call23_v3 : Ref sig .tc := ⟨.hbm, 667, rfl⟩
abbrev main_call23_v4 : Ref sig .tc := ⟨.hbm, 668, rfl⟩
abbrev main_v422 : Ref sig .tc := ⟨.hbm, 669, rfl⟩
abbrev main_c_137 : Ref sig .tc := ⟨.hbm, 670, rfl⟩
abbrev main_v423 : Ref sig .tc := ⟨.hbm, 671, rfl⟩
abbrev main_v424 : Ref sig .tc := ⟨.hbm, 672, rfl⟩
abbrev main_v425 : Ref sig .tc := ⟨.hbm, 673, rfl⟩
abbrev main_v426 : Ref sig .tc := ⟨.hbm, 674, rfl⟩
abbrev main_c_138 : Ref sig .tc := ⟨.hbm, 675, rfl⟩
abbrev main_v427 : Ref sig .tc := ⟨.hbm, 676, rfl⟩
abbrev main_v428 : Ref sig .tc := ⟨.hbm, 677, rfl⟩
abbrev main_v429 : Ref sig .tc := ⟨.hbm, 678, rfl⟩
abbrev main_c_139 : Ref sig .tc := ⟨.hbm, 679, rfl⟩
abbrev main_v430 : Ref sig .tc := ⟨.hbm, 680, rfl⟩
abbrev main_v431 : Ref sig .tc := ⟨.hbm, 681, rfl⟩
abbrev main_v432 : Ref sig .tc := ⟨.hbm, 682, rfl⟩
abbrev main_v433 : Ref sig .tc := ⟨.hbm, 683, rfl⟩
abbrev main_v434 : Ref sig .tc := ⟨.hbm, 684, rfl⟩
abbrev main_v435 : Ref sig .tc := ⟨.hbm, 685, rfl⟩
abbrev main_v436 : Ref sig .tc := ⟨.hbm, 686, rfl⟩
abbrev main_v437 : Ref sig .tc := ⟨.hbm, 687, rfl⟩
abbrev main_v438 : Ref sig .tc := ⟨.hbm, 688, rfl⟩
abbrev main_c_140 : Ref sig .tc := ⟨.hbm, 689, rfl⟩
abbrev main_v439 : Ref sig .tc := ⟨.hbm, 690, rfl⟩
abbrev main_v440 : Ref sig .tc := ⟨.hbm, 691, rfl⟩
abbrev main_c_141 : Ref sig .tc := ⟨.hbm, 692, rfl⟩
abbrev main_v441 : Ref sig .tc := ⟨.hbm, 693, rfl⟩
abbrev main_v442 : Ref sig .tc := ⟨.hbm, 694, rfl⟩
abbrev main_v443 : Ref sig .tc := ⟨.hbm, 695, rfl⟩
abbrev main_v444 : Ref sig .tc := ⟨.hbm, 696, rfl⟩
abbrev main_v445 : Ref sig .tc := ⟨.hbm, 697, rfl⟩
abbrev main_v446 : Ref sig .tc := ⟨.hbm, 698, rfl⟩
abbrev main_v447 : Ref sig .tc := ⟨.hbm, 699, rfl⟩
abbrev main_c_142 : Ref sig .tc := ⟨.hbm, 700, rfl⟩
abbrev main_v448 : Ref sig .tc := ⟨.hbm, 701, rfl⟩
abbrev main_v449 : Ref sig .tc := ⟨.hbm, 702, rfl⟩
abbrev main_v450 : Ref sig .tc := ⟨.hbm, 703, rfl⟩
abbrev main_v451 : Ref sig .tc := ⟨.hbm, 704, rfl⟩
abbrev main_c_143 : Ref sig .tc := ⟨.hbm, 705, rfl⟩
abbrev main_v452 : Ref sig .tc := ⟨.hbm, 706, rfl⟩
abbrev main_v453 : Ref sig .tc := ⟨.hbm, 707, rfl⟩
abbrev main_v454 : Ref sig .tc := ⟨.hbm, 708, rfl⟩
abbrev main_v455 : Ref sig .tc := ⟨.hbm, 709, rfl⟩
abbrev main_c_144 : Ref sig .tc := ⟨.hbm, 710, rfl⟩
abbrev main_v456 : Ref sig .tc := ⟨.hbm, 711, rfl⟩
abbrev main_v457 : Ref sig .tc := ⟨.hbm, 712, rfl⟩
abbrev main_v458 : Ref sig .tc := ⟨.hbm, 713, rfl⟩
abbrev main_v459 : Ref sig .tc := ⟨.hbm, 714, rfl⟩
abbrev main_cst_145 : Ref sig .tc := ⟨.hbm, 715, rfl⟩
abbrev main_v460 : Ref sig .tc := ⟨.hbm, 716, rfl⟩
abbrev main_v461 : Ref sig .tc := ⟨.hbm, 717, rfl⟩
abbrev main_v462 : Ref sig .tc := ⟨.hbm, 718, rfl⟩
abbrev main_v463 : Ref sig .tc := ⟨.hbm, 719, rfl⟩
abbrev main_v464 : Ref sig .tc := ⟨.hbm, 720, rfl⟩
abbrev main_v465 : Ref sig .tc := ⟨.hbm, 721, rfl⟩
abbrev main_v466 : Ref sig .tc := ⟨.hbm, 722, rfl⟩
abbrev main_v467 : Ref sig .tc := ⟨.hbm, 723, rfl⟩
abbrev main_c_146 : Ref sig .tc := ⟨.hbm, 724, rfl⟩
abbrev main_v468 : Ref sig .tc := ⟨.hbm, 725, rfl⟩
abbrev main_v469 : Ref sig .tc := ⟨.hbm, 726, rfl⟩
abbrev main_c_147 : Ref sig .tc := ⟨.hbm, 727, rfl⟩
abbrev main_v470 : Ref sig .tc := ⟨.hbm, 728, rfl⟩
abbrev main_v471 : Ref sig .tc := ⟨.hbm, 729, rfl⟩
abbrev main_v472 : Ref sig .tc := ⟨.hbm, 730, rfl⟩
abbrev main_c_148 : Ref sig .tc := ⟨.hbm, 731, rfl⟩
abbrev main_v473 : Ref sig .tc := ⟨.hbm, 732, rfl⟩
abbrev main_v474 : Ref sig .tc := ⟨.hbm, 733, rfl⟩
abbrev main_v475 : Ref sig .tc := ⟨.hbm, 734, rfl⟩
abbrev main_c_149 : Ref sig .tc := ⟨.hbm, 735, rfl⟩
abbrev main_v476 : Ref sig .tc := ⟨.hbm, 736, rfl⟩
abbrev main_v477 : Ref sig .tc := ⟨.hbm, 737, rfl⟩
abbrev main_v478 : Ref sig .tc := ⟨.hbm, 738, rfl⟩
abbrev main_c_150 : Ref sig .tc := ⟨.hbm, 739, rfl⟩
abbrev main_v479 : Ref sig .tc := ⟨.hbm, 740, rfl⟩
abbrev main_v480 : Ref sig .tc := ⟨.hbm, 741, rfl⟩
abbrev main_v481 : Ref sig .tc := ⟨.hbm, 742, rfl⟩
abbrev main_c_151 : Ref sig .tc := ⟨.hbm, 743, rfl⟩
abbrev main_v482 : Ref sig .tc := ⟨.hbm, 744, rfl⟩
abbrev main_v483 : Ref sig .tc := ⟨.hbm, 745, rfl⟩
abbrev main_v484 : Ref sig .tc := ⟨.hbm, 746, rfl⟩
abbrev main_cst_152 : Ref sig .tc := ⟨.hbm, 747, rfl⟩
abbrev main_call24_v0 : Ref sig .tc := ⟨.hbm, 748, rfl⟩
abbrev main_call24_v1 : Ref sig .tc := ⟨.hbm, 749, rfl⟩
abbrev main_v485 : Ref sig .tc := ⟨.hbm, 750, rfl⟩
abbrev main_c_153 : Ref sig .tc := ⟨.hbm, 751, rfl⟩
abbrev main_c_154 : Ref sig .tc := ⟨.hbm, 752, rfl⟩
abbrev main_call25_v0 : Ref sig .tc := ⟨.hbm, 753, rfl⟩
abbrev main_call25_v1 : Ref sig .tc := ⟨.hbm, 754, rfl⟩
abbrev main_call25_v2 : Ref sig .tc := ⟨.hbm, 755, rfl⟩
abbrev main_call25_v3 : Ref sig .tc := ⟨.hbm, 756, rfl⟩
abbrev main_call25_v4 : Ref sig .tc := ⟨.hbm, 757, rfl⟩
abbrev main_v486 : Ref sig .tc := ⟨.hbm, 758, rfl⟩
abbrev main_c_155 : Ref sig .tc := ⟨.hbm, 759, rfl⟩
abbrev main_c_156 : Ref sig .tc := ⟨.hbm, 760, rfl⟩
abbrev main_call26_v0 : Ref sig .tc := ⟨.hbm, 761, rfl⟩
abbrev main_call26_v1 : Ref sig .tc := ⟨.hbm, 762, rfl⟩
abbrev main_call26_v2 : Ref sig .tc := ⟨.hbm, 763, rfl⟩
abbrev main_call26_v3 : Ref sig .tc := ⟨.hbm, 764, rfl⟩
abbrev main_call26_v4 : Ref sig .tc := ⟨.hbm, 765, rfl⟩
abbrev main_v487 : Ref sig .tc := ⟨.hbm, 766, rfl⟩
abbrev main_c_157 : Ref sig .tc := ⟨.hbm, 767, rfl⟩
abbrev main_c_158 : Ref sig .tc := ⟨.hbm, 768, rfl⟩
abbrev main_call27_v0 : Ref sig .tc := ⟨.hbm, 769, rfl⟩
abbrev main_call27_v1 : Ref sig .tc := ⟨.hbm, 770, rfl⟩
abbrev main_call27_v2 : Ref sig .tc := ⟨.hbm, 771, rfl⟩
abbrev main_call27_v3 : Ref sig .tc := ⟨.hbm, 772, rfl⟩
abbrev main_call27_v4 : Ref sig .tc := ⟨.hbm, 773, rfl⟩
abbrev main_v488 : Ref sig .tc := ⟨.hbm, 774, rfl⟩
abbrev main_c_159 : Ref sig .tc := ⟨.hbm, 775, rfl⟩
abbrev main_v489 : Ref sig .tc := ⟨.hbm, 776, rfl⟩
abbrev main_v490 : Ref sig .tc := ⟨.hbm, 777, rfl⟩
abbrev main_v491 : Ref sig .tc := ⟨.hbm, 778, rfl⟩
abbrev main_v492 : Ref sig .tc := ⟨.hbm, 779, rfl⟩
abbrev main_c_160 : Ref sig .tc := ⟨.hbm, 780, rfl⟩
abbrev main_v493 : Ref sig .tc := ⟨.hbm, 781, rfl⟩
abbrev main_v494 : Ref sig .tc := ⟨.hbm, 782, rfl⟩
abbrev main_v495 : Ref sig .tc := ⟨.hbm, 783, rfl⟩
abbrev main_c_161 : Ref sig .tc := ⟨.hbm, 784, rfl⟩
abbrev main_v496 : Ref sig .tc := ⟨.hbm, 785, rfl⟩
abbrev main_v497 : Ref sig .tc := ⟨.hbm, 786, rfl⟩
abbrev main_v498 : Ref sig .tc := ⟨.hbm, 787, rfl⟩
abbrev main_v499 : Ref sig .tc := ⟨.hbm, 788, rfl⟩
abbrev main_v500 : Ref sig .tc := ⟨.hbm, 789, rfl⟩
abbrev main_v501 : Ref sig .tc := ⟨.hbm, 790, rfl⟩
abbrev main_v502 : Ref sig .tc := ⟨.hbm, 791, rfl⟩
abbrev main_v503 : Ref sig .tc := ⟨.hbm, 792, rfl⟩
abbrev main_v504 : Ref sig .tc := ⟨.hbm, 793, rfl⟩
abbrev main_c_162 : Ref sig .tc := ⟨.hbm, 794, rfl⟩
abbrev main_v505 : Ref sig .tc := ⟨.hbm, 795, rfl⟩
abbrev main_v506 : Ref sig .tc := ⟨.hbm, 796, rfl⟩
abbrev main_c_163 : Ref sig .tc := ⟨.hbm, 797, rfl⟩
abbrev main_v507 : Ref sig .tc := ⟨.hbm, 798, rfl⟩
abbrev main_v508 : Ref sig .tc := ⟨.hbm, 799, rfl⟩
abbrev main_v509 : Ref sig .tc := ⟨.hbm, 800, rfl⟩
abbrev main_v510 : Ref sig .tc := ⟨.hbm, 801, rfl⟩
abbrev main_v511 : Ref sig .tc := ⟨.hbm, 802, rfl⟩
abbrev main_v512 : Ref sig .tc := ⟨.hbm, 803, rfl⟩
abbrev main_v513 : Ref sig .tc := ⟨.hbm, 804, rfl⟩
abbrev main_c_164 : Ref sig .tc := ⟨.hbm, 805, rfl⟩
abbrev main_v514 : Ref sig .tc := ⟨.hbm, 806, rfl⟩
abbrev main_v515 : Ref sig .tc := ⟨.hbm, 807, rfl⟩
abbrev main_v516 : Ref sig .tc := ⟨.hbm, 808, rfl⟩
abbrev main_v517 : Ref sig .tc := ⟨.hbm, 809, rfl⟩
abbrev main_c_165 : Ref sig .tc := ⟨.hbm, 810, rfl⟩
abbrev main_v518 : Ref sig .tc := ⟨.hbm, 811, rfl⟩
abbrev main_v519 : Ref sig .tc := ⟨.hbm, 812, rfl⟩
abbrev main_v520 : Ref sig .tc := ⟨.hbm, 813, rfl⟩
abbrev main_v521 : Ref sig .tc := ⟨.hbm, 814, rfl⟩
abbrev main_c_166 : Ref sig .tc := ⟨.hbm, 815, rfl⟩
abbrev main_v522 : Ref sig .tc := ⟨.hbm, 816, rfl⟩
abbrev main_v523 : Ref sig .tc := ⟨.hbm, 817, rfl⟩
abbrev main_v524 : Ref sig .tc := ⟨.hbm, 818, rfl⟩
abbrev main_v525 : Ref sig .tc := ⟨.hbm, 819, rfl⟩
abbrev main_v526 : Ref sig .tc := ⟨.hbm, 820, rfl⟩
abbrev main_v527 : Ref sig .tc := ⟨.hbm, 821, rfl⟩
abbrev main_v528 : Ref sig .tc := ⟨.hbm, 822, rfl⟩
abbrev main_v529 : Ref sig .tc := ⟨.hbm, 823, rfl⟩
abbrev main_v530 : Ref sig .tc := ⟨.hbm, 824, rfl⟩
abbrev main_v531 : Ref sig .tc := ⟨.hbm, 825, rfl⟩
abbrev main_c_167 : Ref sig .tc := ⟨.hbm, 826, rfl⟩
abbrev main_v532 : Ref sig .tc := ⟨.hbm, 827, rfl⟩
abbrev main_v533 : Ref sig .tc := ⟨.hbm, 828, rfl⟩
abbrev main_c_168 : Ref sig .tc := ⟨.hbm, 829, rfl⟩
abbrev main_v534 : Ref sig .tc := ⟨.hbm, 830, rfl⟩
abbrev main_v535 : Ref sig .tc := ⟨.hbm, 831, rfl⟩
abbrev main_v536 : Ref sig .tc := ⟨.hbm, 832, rfl⟩
abbrev main_c_169 : Ref sig .tc := ⟨.hbm, 833, rfl⟩
abbrev main_v537 : Ref sig .tc := ⟨.hbm, 834, rfl⟩
abbrev main_v538 : Ref sig .tc := ⟨.hbm, 835, rfl⟩
abbrev main_v539 : Ref sig .tc := ⟨.hbm, 836, rfl⟩
abbrev main_c_170 : Ref sig .tc := ⟨.hbm, 837, rfl⟩
abbrev main_v540 : Ref sig .tc := ⟨.hbm, 838, rfl⟩
abbrev main_v541 : Ref sig .tc := ⟨.hbm, 839, rfl⟩
abbrev main_v542 : Ref sig .tc := ⟨.hbm, 840, rfl⟩
abbrev main_c_171 : Ref sig .tc := ⟨.hbm, 841, rfl⟩
abbrev main_v543 : Ref sig .tc := ⟨.hbm, 842, rfl⟩
abbrev main_v544 : Ref sig .tc := ⟨.hbm, 843, rfl⟩
abbrev main_v545 : Ref sig .tc := ⟨.hbm, 844, rfl⟩
abbrev main_c_172 : Ref sig .tc := ⟨.hbm, 845, rfl⟩
abbrev main_v546 : Ref sig .tc := ⟨.hbm, 846, rfl⟩
abbrev main_v547 : Ref sig .tc := ⟨.hbm, 847, rfl⟩
abbrev main_v548 : Ref sig .tc := ⟨.hbm, 848, rfl⟩
abbrev main_cst_173 : Ref sig .tc := ⟨.hbm, 849, rfl⟩
abbrev main_call28_v0 : Ref sig .tc := ⟨.hbm, 850, rfl⟩
abbrev main_call28_v1 : Ref sig .tc := ⟨.hbm, 851, rfl⟩
abbrev main_v549 : Ref sig .tc := ⟨.hbm, 852, rfl⟩
abbrev main_c_174 : Ref sig .tc := ⟨.hbm, 853, rfl⟩
abbrev main_c_175 : Ref sig .tc := ⟨.hbm, 854, rfl⟩
abbrev main_call29_v0 : Ref sig .tc := ⟨.hbm, 855, rfl⟩
abbrev main_call29_v1 : Ref sig .tc := ⟨.hbm, 856, rfl⟩
abbrev main_call29_v2 : Ref sig .tc := ⟨.hbm, 857, rfl⟩
abbrev main_call29_v3 : Ref sig .tc := ⟨.hbm, 858, rfl⟩
abbrev main_call29_v4 : Ref sig .tc := ⟨.hbm, 859, rfl⟩
abbrev main_v550 : Ref sig .tc := ⟨.hbm, 860, rfl⟩
abbrev main_c_176 : Ref sig .tc := ⟨.hbm, 861, rfl⟩
abbrev main_c_177 : Ref sig .tc := ⟨.hbm, 862, rfl⟩
abbrev main_call30_v0 : Ref sig .tc := ⟨.hbm, 863, rfl⟩
abbrev main_call30_v1 : Ref sig .tc := ⟨.hbm, 864, rfl⟩
abbrev main_call30_v2 : Ref sig .tc := ⟨.hbm, 865, rfl⟩
abbrev main_call30_v3 : Ref sig .tc := ⟨.hbm, 866, rfl⟩
abbrev main_call30_v4 : Ref sig .tc := ⟨.hbm, 867, rfl⟩
abbrev main_v551 : Ref sig .tc := ⟨.hbm, 868, rfl⟩
abbrev main_c_178 : Ref sig .tc := ⟨.hbm, 869, rfl⟩
abbrev main_c_179 : Ref sig .tc := ⟨.hbm, 870, rfl⟩
abbrev main_call31_v0 : Ref sig .tc := ⟨.hbm, 871, rfl⟩
abbrev main_call31_v1 : Ref sig .tc := ⟨.hbm, 872, rfl⟩
abbrev main_call31_v2 : Ref sig .tc := ⟨.hbm, 873, rfl⟩
abbrev main_call31_v3 : Ref sig .tc := ⟨.hbm, 874, rfl⟩
abbrev main_call31_v4 : Ref sig .tc := ⟨.hbm, 875, rfl⟩
abbrev main_v552 : Ref sig .tc := ⟨.hbm, 876, rfl⟩
abbrev main_c_180 : Ref sig .tc := ⟨.hbm, 877, rfl⟩
abbrev main_v553 : Ref sig .tc := ⟨.hbm, 878, rfl⟩
abbrev main_v554 : Ref sig .tc := ⟨.hbm, 879, rfl⟩
abbrev main_v555 : Ref sig .tc := ⟨.hbm, 880, rfl⟩
abbrev main_v556 : Ref sig .tc := ⟨.hbm, 881, rfl⟩
abbrev main_c_181 : Ref sig .tc := ⟨.hbm, 882, rfl⟩
abbrev main_v557 : Ref sig .tc := ⟨.hbm, 883, rfl⟩
abbrev main_v558 : Ref sig .tc := ⟨.hbm, 884, rfl⟩
abbrev main_v559 : Ref sig .tc := ⟨.hbm, 885, rfl⟩
abbrev main_c_182 : Ref sig .tc := ⟨.hbm, 886, rfl⟩
abbrev main_v560 : Ref sig .tc := ⟨.hbm, 887, rfl⟩
abbrev main_v561 : Ref sig .tc := ⟨.hbm, 888, rfl⟩
abbrev main_v562 : Ref sig .tc := ⟨.hbm, 889, rfl⟩
abbrev main_v563 : Ref sig .tc := ⟨.hbm, 890, rfl⟩
abbrev main_v564 : Ref sig .tc := ⟨.hbm, 891, rfl⟩
abbrev main_v565 : Ref sig .tc := ⟨.hbm, 892, rfl⟩
abbrev main_v566 : Ref sig .tc := ⟨.hbm, 893, rfl⟩
abbrev main_v567 : Ref sig .tc := ⟨.hbm, 894, rfl⟩
abbrev main_v568 : Ref sig .tc := ⟨.hbm, 895, rfl⟩
abbrev main_c_183 : Ref sig .tc := ⟨.hbm, 896, rfl⟩
abbrev main_v569 : Ref sig .tc := ⟨.hbm, 897, rfl⟩
abbrev main_v570 : Ref sig .tc := ⟨.hbm, 898, rfl⟩
abbrev main_c_184 : Ref sig .tc := ⟨.hbm, 899, rfl⟩
abbrev main_v571 : Ref sig .tc := ⟨.hbm, 900, rfl⟩
abbrev main_v572 : Ref sig .tc := ⟨.hbm, 901, rfl⟩
abbrev main_v573 : Ref sig .tc := ⟨.hbm, 902, rfl⟩
abbrev main_v574 : Ref sig .tc := ⟨.hbm, 903, rfl⟩
abbrev main_v575 : Ref sig .tc := ⟨.hbm, 904, rfl⟩
abbrev main_v576 : Ref sig .tc := ⟨.hbm, 905, rfl⟩

abbrev nD : Nat := 1
abbrev τ : Topo := Topo.v7x

variable {F : FTy → Type} [FloatOps F]
-- ==== Proof.Hat.lean ====
/- One coordinate of a sample against one voxel of its axis: the hat function of the distance is the weight of whichever
   of the two neighbouring voxels (the floor and the one after it) the voxel is, and zero when it is neither. -/
module

public import Idealize.ShloMosaic.Lib.ValueIdx

@[expose] public section

noncomputable section

namespace Cert.Splat

open Idealize.ShloMosaic

/-- The voxel below a coordinate, as the 32-bit word that a conversion of its floor gives. -/
def below (p : EReal) : BitVec 32 := Ideal.fptosi 32 (Ideal.liftRound Int.floor p)

/-- How far a coordinate lies past its floor. -/
def past (p : EReal) : EReal := p - Ideal.liftRound Int.floor p

/-- The weight of one of the two neighbouring voxels: the one after the floor (`d`), or the floor itself. -/
def tap (d : Bool) (p : EReal) : EReal := if d then past p else 1 - past p

/-- The hat function of a coordinate at voxel `x`: one less the distance, and never below zero. -/
def hat (p : EReal) (x : ℕ) : EReal := max (1 - max (p - ((x : ℝ) : EReal)) (-(p - ((x : ℝ) : EReal)))) 0

/-- The word of the neighbouring voxel: the floor's word, one added for the voxel after it. -/
def step (d : Bool) : BitVec 32 := if d then 1#32 else 0#32

/-- Clamping the floor of a real (as an integer that is converted) is clamping that integer. -/
theorem toIntClamped_intCast (lo hi f : ℤ) : Ideal.toIntClamped lo hi ((f : ℝ) : EReal) = max lo (min hi f) := by
  show max lo (min hi (if (0 : ℝ) ≤ (f : ℝ) then ⌊(f : ℝ)⌋ else ⌈(f : ℝ)⌉)) = _
  simp

/-- The word of a real's floor: the floor clamped to the 32-bit range. -/
theorem below_coe (r : ℝ) : below (r : EReal) = BitVec.ofInt 32 (max (-2147483648) (min 2147483647 ⌊r⌋)) := by
  show BitVec.ofInt 32 (Ideal.toIntClamped _ _ ((⌊r⌋ : ℝ) : EReal)) = _
  rw [toIntClamped_intCast]
  norm_num

/-- A clamped integer's word, `d` added, is the word of a small number exactly when the integer plus `d` is that number. -/
theorem word_eq_iff (f : ℤ) (d : Bool) (x : ℕ) (hx : x < 64) :
    BitVec.ofInt 32 (max (-2147483648) (min 2147483647 f)) + step d = BitVec.ofNat 32 x ↔ f + (if d then 1 else 0) = (x : ℤ) := by
  generalize hg : max (-2147483648) (min 2147483647 f) = g
  have h1 : -2147483648 ≤ g := by omega
  have h2 : g ≤ 2147483647 := by omega
  have key : BitVec.ofInt 32 g + step d = BitVec.ofNat 32 x ↔ g + (if d then 1 else 0) = (x : ℤ) := by
    have e : BitVec.ofInt 32 g + step d = BitVec.ofInt 32 (g + (if d then 1 else 0)) := by
      cases d <;> simp [step, BitVec.ofInt_add]
    have e' : BitVec.ofNat 32 x = BitVec.ofInt 32 (x : ℤ) := by simp
    rw [e, e']
    constructor
    · intro h
      have := congrArg BitVec.toInt h
      rw [BitVec.toInt_ofInt, BitVec.toInt_ofInt] at this
      cases d <;> simp only [Int.bmod_def] at this <;> simp at this ⊢ <;> omega
    · intro h; rw [h]
  rw [key]
  cases d <;> simp <;> omega

/-- The hat function of a real coordinate is the real hat function. -/
theorem hat_coe (r : ℝ) (x : ℕ) : hat (r : EReal) x = ((max (1 - |r - x|) 0 : ℝ) : EReal) := by
  unfold hat
  rw [← EReal.coe_sub, ← EReal.coe_neg, abs_eq_max_neg]
  have hm : ∀ a b : ℝ, max (a : EReal) (b : EReal) = ((max a b : ℝ) : EReal) := fun a b =>
    (EReal.coe_strictMono.monotone.map_max (a := a) (b := b)).symm
  rw [hm, ← EReal.coe_one, ← EReal.coe_sub, ← EReal.coe_zero, hm]

/-- THE AXIS LEMMA. The voxel is one of the two neighbours and the hat function is that neighbour's weight, or it is neither
    and the hat function is zero. It holds of every extended real. -/
theorem hat_cases (p : EReal) (x : ℕ) (hx : x < 64) :
    (below p + step false = BitVec.ofNat 32 x ∧ ¬below p + step true = BitVec.ofNat 32 x ∧ hat p x = tap false p)
    ∨ (¬below p + step false = BitVec.ofNat 32 x ∧ below p + step true = BitVec.ofNat 32 x ∧ hat p x = tap true p)
    ∨ (¬below p + step false = BitVec.ofNat 32 x ∧ ¬below p + step true = BitVec.ofNat 32 x ∧ hat p x = 0) := by
  induction p with
  | bot =>
    have hb : below ⊥ = BitVec.ofInt 32 (max (-2147483648) (min 2147483647 (-2147483648))) := by decide +revert
    right; right
    rw [hb, word_eq_iff _ _ _ hx, word_eq_iff _ _ _ hx]
    refine ⟨by simp; try omega, by simp; try omega, ?_⟩
    simp [hat]
  | top =>
    have hb : below ⊤ = BitVec.ofInt 32 (max (-2147483648) (min 2147483647 2147483647)) := by decide +revert
    right; right
    rw [hb, word_eq_iff _ _ _ hx, word_eq_iff _ _ _ hx]
    refine ⟨by simp; omega, by simp; omega, ?_⟩
    have e : (⊤ : EReal) - ((x : ℝ) : EReal) = ⊤ := EReal.top_sub_coe _
    rw [hat, e]
    simp
  | coe r =>
    rw [below_coe, word_eq_iff _ _ _ hx, word_eq_iff _ _ _ hx, hat_coe]
    have hpast : past (r : EReal) = ((r - (⌊r⌋ : ℝ) : ℝ) : EReal) := by
      show (r : EReal) - ((⌊r⌋ : ℝ) : EReal) = _
      rw [EReal.coe_sub]
    have h1 := Int.floor_le r
    have h2 := Int.lt_floor_add_one r
    rcases lt_trichotomy ⌊r⌋ (x : ℤ) with h | h | h
    · by_cases h' : ⌊r⌋ + 1 = (x : ℤ)
      · right; left
        refine ⟨by simp; omega, by simpa using h', ?_⟩
        have hx' : (x : ℝ) = (⌊r⌋ : ℝ) + 1 := by exact_mod_cast h'.symm
        rw [tap, if_pos rfl, hpast, hx', abs_of_neg (by linarith), max_eq_left (by linarith)]
        congr 1; ring
      · right; right
        refine ⟨by simp; omega, by simpa using h', ?_⟩
        have hx' : (⌊r⌋ : ℝ) + 2 ≤ (x : ℝ) := by exact_mod_cast (by omega : ⌊r⌋ + 2 ≤ (x : ℤ))
        rw [abs_of_neg (by linarith), max_eq_right (by linarith)]; rfl
    · left
      refine ⟨by simpa using h, by simp; omega, ?_⟩
      have hx' : (x : ℝ) = (⌊r⌋ : ℝ) := by exact_mod_cast h.symm
      rw [tap, if_neg (by decide), hpast, hx', abs_of_nonneg (by linarith), max_eq_left (by linarith), EReal.coe_sub]
      rfl
    · right; right
      refine ⟨by simp; omega, by simp; omega, ?_⟩
      have hx' : (x : ℝ) + 1 ≤ (⌊r⌋ : ℝ) := by exact_mod_cast (by omega : (x : ℤ) + 1 ≤ ⌊r⌋)
      rw [abs_of_nonneg (by linarith), max_eq_right (by linarith)]; rfl

end Cert.Splat

end
-- ==== Proof.Corner.lean ====
module

public import proofs.«01_k».proof.Proof.Gen.KernelIdeal
public import proofs.«01_k».proof.Proof.Hat

@[expose] public section

/-! # One corner's scatter, as the kernel writes it

Every sample lies in a cell of the grid and adds a share of its value to each of the cell's eight corners. The kernel does
this corner by corner. Here is the work for one corner, named by three bits: the bit of an axis says whether the corner is
the cell's upper one along that axis. It is stated at any number type. -/

noncomputable section

namespace Cert.Splat

open Idealize.ShloMosaic Idealize.ShloMosaic.TcCoe
open Cert.KernelIdeal Cert.KernelIdeal.Gen

variable {F : FTy → Type} [FloatOps F]

/-- The first coordinate of every sample. -/
def col0 {α : Type} (x : S16384x64x3.Idx → α) : S16384x64.Idx → α :=
  shapeCast S16384x64 (extractStridedSlice S16384x64x1 ![0, 0, 0] x slices_S16384x64x3_S16384x64x1_0_0_0) shapeCasts_S16384x64x1_S16384x64

/-- The second coordinate of every sample. -/
def col1 {α : Type} (x : S16384x64x3.Idx → α) : S16384x64.Idx → α :=
  shapeCast S16384x64 (extractStridedSlice S16384x64x1 ![0, 0, 1] x slices_S16384x64x3_S16384x64x1_0_0_1) shapeCasts_S16384x64x1_S16384x64

/-- The third coordinate of every sample. -/
def col2 {α : Type} (x : S16384x64x3.Idx → α) : S16384x64.Idx → α :=
  shapeCast S16384x64 (extractStridedSlice S16384x64x1 ![0, 0, 2] x slices_S16384x64x3_S16384x64x1_0_0_2) shapeCasts_S16384x64x1_S16384x64

/-- One integer for every sample. -/
def every (n : BitVec 32) : S16384x64.Idx → BitVec 32 :=
  broadcastInDim S16384x64 ![] bcast_S_S16384x64 (constantI S_ 32 n)

/-- The corner's coordinate along one axis: the cell's, or the next. -/
def moved (d : Bool) (x : S16384x64.Idx → BitVec 32) : S16384x64.Idx → BitVec 32 := addi x (every (step d))

/-- The corner's weight along one axis, from the fraction the sample lies past the cell's start. -/
def share (d : Bool) (f : FVec F S16384x64 .f32) : FVec F S16384x64 .f32 :=
  match d with
  | true => f
  | false => subf (broadcastInDim S16384x64 ![] bcast_S_S16384x64 (constant S_ .f32 0x3F800000#32)) f

/-- The corner's weight: the product over the axes. -/
def weight (dx dy dz : Bool) (frac : FVec F S16384x64x3 .f32) : FVec F S16384x64 .f32 :=
  mulf (mulf (share dx (col0 frac)) (share dy (col1 frac))) (share dz (col2 frac))

/-- Whether the corner is in the grid. -/
def inside (x y z : S16384x64.Idx → BitVec 32) : S16384x64.Idx → BitVec 1 :=
  andi (andi (andi (andi (andi (cmpi .sge x (every 0#32)) (cmpi .slt x (every 64#32))) (cmpi .sge y (every 0#32)))
    (cmpi .slt y (every 64#32))) (cmpi .sge z (every 0#32))) (cmpi .slt z (every 64#32))

/-- The weights, zero where the corner is not in the grid. -/
def kept (i : S16384x64.Idx → BitVec 1) (w : FVec F S16384x64 .f32) : FVec F S16384x64 .f32 :=
  select i w (broadcastInDim S16384x64 ![] bcast_S_S16384x64 (id (constant S_ .f32 0x00000000#32)))

/-- The coordinate clamped to the grid. -/
def clamped (x : S16384x64.Idx → BitVec 32) : S16384x64.Idx → BitVec 32 := minsi (every 63#32) (maxsi (every 0#32) x)

/-- The corner's row in the flat grid. -/
def flat (g : S16384x1.Idx → BitVec 32) (x y z : S16384x64.Idx → BitVec 32) : S16384x64.Idx → BitVec 32 :=
  addi (muli (addi (muli (addi (broadcastInDim S16384x64 ![0, 1] bcast_S16384x1_S16384x64_0_1
    (muli g (broadcastInDim S16384x1 ![] bcast_S_S16384x1 (constantI S_ 32 64#32)))) z) (every 64#32)) y) (every 64#32)) x

/-- The rows as a list over rays and samples, a negative one counted from the end of the grid. -/
def rows (f : S16384x64.Idx → BitVec 32) : S1048576x1.Idx → BitVec 32 :=
  let l : S1048576.Idx → BitVec 32 := shapeCast S1048576 f shapeCasts_S16384x64_S1048576
  broadcastInDim S1048576x1 ![0] bcast_S1048576_S1048576x1_0
    (select (cmpi .slt l (broadcastInDim S1048576 ![] bcast_S_S1048576 (constantI S_ 32 0#32)))
      (addi l (broadcastInDim S1048576 ![] bcast_S_S1048576 (constantI S_ 32 262144#32))) l)

/-- The amounts to add, as a list over rays and samples: weight times value, in every channel. -/
def amounts (w : FVec F S16384x64 .f32) (vals : FVec F S16384x1x32 .f32) : FVec F S1048576x32 .f32 :=
  shapeCast S1048576x32
    (mulf (broadcastInDim S16384x64x32 ![0, 1, 2] bcast_S16384x64x1_S16384x64x32_0_1_2
        (broadcastInDim S16384x64x1 ![0, 1] bcast_S16384x64_S16384x64x1_0_1 w))
      (broadcastInDim S16384x64x32 ![0, 1, 2] bcast_S16384x1x32_S16384x64x32_0_1_2 vals))
    shapeCasts_S16384x64x32_S1048576x32

/-- The grid after the corner's scatter. -/
def corner (dx dy dz : Bool) (cell : S16384x64x3.Idx → BitVec 32) (frac : FVec F S16384x64x3 .f32)
    (g : S16384x1.Idx → BitVec 32) (vals : FVec F S16384x1x32 .f32) (grid : FVec F S262144x32 .f32) :
    FVec F S262144x32 .f32 :=
  let x := moved dx (col0 cell)
  let y := moved dy (col1 cell)
  let z := moved dz (col2 cell)
  Host.scatterAdd scatter_S262144x32_S1048576x1_S1048576x32_1_0_0_1 grid
    (rows (flat g (clamped x) (clamped y) (clamped z)))
    (amounts (kept (inside x y z) (weight dx dy dz frac)) vals)

end Cert.Splat

end
-- ==== Proof.HostOps.lean ====
module

public import Idealize.ShloMosaic.Lib.Pipeline.Kit
public import Idealize.ShloMosaic.Lib.StableHlo.RunRead

@[expose] public section

/-! # Host operations that keep the earlier buffers

The host lines of this program write their results into consecutive buffers, each once. So a stretch of lines whose
results all lie at or past position `n` leaves every buffer before `n` as it found it. -/

noncomputable section

namespace Cert.Splat

open Idealize.ShloMosaic Idealize.ShloMosaic.TcCoe

variable {τ : Topo} {sig : RefSig} {Val : EltTy → Type}

/-- The operation allocates nothing and writes one buffer only, which lies at position `n` or later. -/
structure Late (n : ℕ) (op : HloOp τ sig Val) : Prop where
  /-- It allocates nothing. -/
  fresh : op.fresh = ∅
  /-- Its one result buffer is at position `n` or later. -/
  writes : ∃ w : Ref sig .tc, op.writes = {Proc.devRef .tc w} ∧ n ≤ w.idx.val

/-- An operation writing at `n` or later writes at `k` or later, for every `k ≤ n`. -/
theorem Late.mono {k n : ℕ} (h : k ≤ n) {op : HloOp τ sig Val} (hop : Late n op) : Late k op :=
  ⟨hop.fresh, hop.writes.imp fun _ hw => ⟨hw.1, h.trans hw.2⟩⟩

/-- A stretch of operations that write at `n` or later leaves a buffer before `n` as it was. -/
theorem after_late {n : ℕ} {ops : List (HloOp τ sig Val)} (h : ops.Forall (Late n)) (b : Ref sig .tc)
    (hb : b.idx.val < n) (V : Valuation τ sig Val) :
    StableHlo.after ops V (Proc.devRef .tc b) = V (Proc.devRef .tc b) := by
  refine StableHlo.after_of_forall_not_mem (b := Proc.devRef .tc b) _ _ fun op hop hmem => ?_
  obtain ⟨w, hw, hn⟩ := (List.forall_iff_forall_mem.mp h op hop).writes
  rw [hw, Finset.mem_singleton] at hmem
  have hbw : b = w := Proc.devRef_injective _ hmem
  subst hbw
  exact absurd hb (Nat.not_lt.2 hn)

/-- The operations of a stretch of such operations allocate nothing. -/
theorem fresh_of_late {n : ℕ} {ops : List (HloOp τ sig Val)} (h : ops.Forall (Late n)) :
    ops.Forall fun op => op.fresh = ∅ :=
  List.forall_iff_forall_mem.mpr fun op hop => (List.forall_iff_forall_mem.mp h op hop).fresh

end Cert.Splat

end
-- ==== Proof.HostCuts.lean ====
module

public import proofs.«01_k».proof.Proof.Gen.KernelIdeal.Launch
public import proofs.«01_k».proof.Proof.HostOps

@[expose] public section

/-! # The host lines before the kernel's one region

The lines are cut where the computation turns: the opening lines (points, weights, cells), then one stretch per corner of
the cell, each ending in that corner's scatter. -/

set_option maxRecDepth 16384

noncomputable section

namespace Cert.Splat

open Idealize.ShloMosaic Idealize.ShloMosaic.TcCoe
open Cert.KernelIdeal Cert.KernelIdeal.Gen

variable {F : FTy → Type} [FloatOps F]

/-- The lists of host lines before the region, in order. -/
abbrev lists : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]

/-- The opening lines: sample points, cell and fraction of each, the samples' values, the zero grid. -/
abbrev opening : List (HloOp τ sig (Elt F)) := hostOps0.take 47

/-- The lines of the first corner. -/
abbrev corner1 : List (HloOp τ sig (Elt F)) :=
  hostOps0.drop 47 ++ hostOps0_1 ++ hostOps0_2 ++ hostOps0_3 ++ hostOps0_4 ++ hostOps0_5 ++ hostOps0_6 ++ hostOps0_7 ++ hostOps0_8.take 28

/-- The lines of the second corner. -/
abbrev corner2 : List (HloOp τ sig (Elt F)) :=
  hostOps0_8.drop 28 ++ hostOps0_9 ++ hostOps0_10 ++ hostOps0_11 ++ hostOps0_12 ++ hostOps0_13 ++ hostOps0_14 ++ hostOps0_15 ++ hostOps0_16.take 28

/-- The lines of the third corner. -/
abbrev corner3 : List (HloOp τ sig (Elt F)) :=
  hostOps0_16.drop 28 ++ hostOps0_17 ++ hostOps0_18 ++ hostOps0_19 ++ hostOps0_20 ++ hostOps0_21 ++ hostOps0_22 ++ hostOps0_23 ++ hostOps0_24.take 28

/-- The lines of the fourth corner. -/
abbrev corner4 : List (HloOp τ sig (Elt F)) :=
  hostOps0_24.drop 28 ++ hostOps0_25 ++ hostOps0_26 ++ hostOps0_27 ++ hostOps0_28 ++ hostOps0_29 ++ hostOps0_30 ++ hostOps0_31 ++ hostOps0_32.take 28

/-- The lines of the fifth corner. -/
abbrev corner5 : List (HloOp τ sig (Elt F)) :=
  hostOps0_32.drop 28 ++ hostOps0_33 ++ hostOps0_34 ++ hostOps0_35 ++ hostOps0_36 ++ hostOps0_37 ++ hostOps0_38 ++ hostOps0_39 ++ hostOps0_40.take 28

/-- The lines of the sixth corner. -/
abbrev corner6 : List (HloOp τ sig (Elt F)) :=
  hostOps0_40.drop 28 ++ hostOps0_41 ++ hostOps0_42 ++ hostOps0_43 ++ hostOps0_44 ++ hostOps0_45 ++ hostOps0_46 ++ hostOps0_47 ++ hostOps0_48.take 28

/-- The lines of the seventh corner. -/
abbrev corner7 : List (HloOp τ sig (Elt F)) :=
  hostOps0_48.drop 28 ++ hostOps0_49 ++ hostOps0_50 ++ hostOps0_51 ++ hostOps0_52 ++ hostOps0_53 ++ hostOps0_54 ++ hostOps0_55 ++ hostOps0_56.take 28

/-- The lines of the eighth corner. -/
abbrev corner8 : List (HloOp τ sig (Elt F)) :=
  hostOps0_56.drop 28 ++ hostOps0_57 ++ hostOps0_58 ++ hostOps0_59 ++ hostOps0_60 ++ hostOps0_61 ++ hostOps0_62 ++ hostOps0_63 ++ hostOps0_64.take 28

set_option maxHeartbeats 4000000 in
/-- Every line writes one buffer, past the arguments. -/
theorem lists_late : (lists (F := F)).Forall fun ops => ops.Forall (Late 6) := by
  repeat' apply And.intro
  all_goals exact ⟨rfl, _, rfl, by decide⟩

set_option maxHeartbeats 4000000 in
/-- The lines of the corners write past the opening lines' results. -/
theorem corners_late : ([corner1, corner2, corner3, corner4, corner5, corner6, corner7, corner8] :
    List (List (HloOp τ sig (Elt F)))).Forall fun ops => ops.Forall (Late 53) := by
  repeat' apply And.intro
  all_goals exact ⟨rfl, _, rfl, by decide⟩

/-- The lines before the region are the opening lines and then the eight corners'. -/
theorem flatten_lists : (lists (F := F)).flatten = opening ++ (corner1 ++ (corner2 ++ (corner3 ++ (corner4 ++ (corner5 ++
    (corner6 ++ (corner7 ++ corner8))))))) := by
  have join : ∀ (n : ℕ) (l r : List (HloOp τ sig (Elt F))), l.take n ++ (l.drop n ++ r) = l ++ r := fun n l r => by
    rw [← List.append_assoc, List.take_append_drop]
  have last : (hostOps0_64 : List (HloOp τ sig (Elt F))).take 28 = hostOps0_64 := rfl
  simp only [List.append_assoc, join, last, List.flatten_cons, List.flatten_nil, List.append_nil]

end Cert.Splat

end
-- ==== Proof.Opening.lean ====
module

public import proofs.«01_k».proof.Proof.Corner
public import proofs.«01_k».proof.Proof.HostCuts

@[expose] public section

/-! # What the kernel computes before the scatters

The sample points along every ray in grid coordinates, the cell each lies in and how far past the cell's start, the volume
of the batch each ray belongs to, the value each sample carries, and the zero grid. It is stated at any number type. -/

set_option maxRecDepth 16384

noncomputable section

namespace Cert.Splat

open Idealize.ShloMosaic Idealize.ShloMosaic.TcCoe
open Cert.KernelIdeal Cert.KernelIdeal.Gen

variable {F : FTy → Type} [FloatOps F]

/-- The middles of the 64 equal parts of the unit interval. -/
def steps : FVec F S64 .f32 :=
  Host.divf (addf (sitofp .f32 (iotaInDim S64 32 0)) (broadcastInDim S64 ![] bcast_S_S64 (constant S_ .f32 0x3F000000#32)))
    (broadcastInDim S64 ![] bcast_S_S64 (constant S_ .f32 0x42800000#32))

/-- Where along its ray each sample lies. -/
def times (near far : FVec F S16384 .f32) : FVec F S16384x64 .f32 :=
  addf (broadcastInDim S16384x64 ![0, 1] bcast_S16384x1_S16384x64_0_1 (broadcastInDim S16384x1 ![0] bcast_S16384_S16384x1_0 near))
    (mulf
      (broadcastInDim S16384x64 ![0, 1] bcast_S16384x1_S16384x64_0_1
        (broadcastInDim S16384x1 ![0] bcast_S16384_S16384x1_0 (subf far near)))
      (broadcastInDim S16384x64 ![0, 1] bcast_S1x64_S16384x64_0_1 (broadcastInDim S1x64 ![1] bcast_S64_S1x64_1 steps)))

/-- The sample points, in grid coordinates. -/
def points (dir orig : FVec F S16384x3 .f32) (near far : FVec F S16384 .f32) : FVec F S16384x64x3 .f32 :=
  mulf
    (mulf
      (addf
        (addf
          (broadcastInDim S16384x64x3 ![0, 1, 2] bcast_S16384x1x3_S16384x64x3_0_1_2
            (broadcastInDim S16384x1x3 ![0, 2] bcast_S16384x3_S16384x1x3_0_2 orig))
          (mulf
            (broadcastInDim S16384x64x3 ![0, 1, 2] bcast_S16384x1x3_S16384x64x3_0_1_2
              (broadcastInDim S16384x1x3 ![0, 2] bcast_S16384x3_S16384x1x3_0_2 dir))
            (broadcastInDim S16384x64x3 ![0, 1, 2] bcast_S16384x64x1_S16384x64x3_0_1_2
              (broadcastInDim S16384x64x1 ![0, 1] bcast_S16384x64_S16384x64x1_0_1 (times near far)))))
        (broadcastInDim S16384x64x3 ![] bcast_S_S16384x64x3 (constant S_ .f32 0x3F800000#32)))
      (broadcastInDim S16384x64x3 ![] bcast_S_S16384x64x3 (constant S_ .f32 0x3F000000#32)))
    (broadcastInDim S16384x64x3 ![0, 1, 2] bcast_S1x1x3_S16384x64x3_0_1_2
      (broadcastInDim S1x1x3 ![2] bcast_S3_S1x1x3_2 (constant S3 .f32 0x427C0000#32)))

/-- How far past its cell's start each sample lies. -/
def fraction (p : FVec F S16384x64x3 .f32) : FVec F S16384x64x3 .f32 := subf p (Host.floor p)

/-- The cell each sample lies in. -/
def cell (p : FVec F S16384x64x3 .f32) : S16384x64x3.Idx → BitVec 32 := fptosi 32 (Host.floor p)

/-- Each ray's place in the batch, as a column. -/
def place (g : S16384.Idx → BitVec 32) : S16384x1.Idx → BitVec 32 := broadcastInDim S16384x1 ![0] bcast_S16384_S16384x1_0 g

/-- The value each sample carries: the ray's encoding times the distance between its samples. -/
def values (enc : FVec F S16384x32 .f32) (near far : FVec F S16384 .f32) : FVec F S16384x1x32 .f32 :=
  mulf (broadcastInDim S16384x1x32 ![0, 2] bcast_S16384x32_S16384x1x32_0_2 enc)
    (broadcastInDim S16384x1x32 ![0, 1, 2] bcast_S16384x1x1_S16384x1x32_0_1_2
      (broadcastInDim S16384x1x1 ![0] bcast_S16384_S16384x1x1_0
        (Host.divf (subf far near) (broadcastInDim S16384 ![] bcast_S_S16384 (constant S_ .f32 0x42800000#32)))))

/-- The grid before any scatter. -/
def zeros : FVec F S262144x32 .f32 := broadcastInDim S262144x32 ![] bcast_S_S262144x32 (constant S_ .f32 0x00000000#32)

/-- The whole grid: the eight corners' scatters, one after the other. -/
def splat (dir orig : FVec F S16384x3 .f32) (near far : FVec F S16384 .f32) (enc : FVec F S16384x32 .f32)
    (g : S16384.Idx → BitVec 32) : FVec F S262144x32 .f32 :=
  let c := cell (points dir orig near far)
  let f := fraction (points dir orig near far)
  let v := values enc near far
  corner true true true c f (place g) v <| corner false true true c f (place g) v <|
  corner true false true c f (place g) v <| corner false false true c f (place g) v <|
  corner true true false c f (place g) v <| corner false true false c f (place g) v <|
  corner true false false c f (place g) v <| corner false false false c f (place g) v zeros

section Reads

variable (W : Valuation τ sig (Elt F))

set_option maxHeartbeats 1000000

/-- The opening lines leave the cells. -/
theorem opening_cell : StableHlo.after opening W (Proc.devRef .tc main_v33)
    = cell (points (W (Proc.devRef .tc main_arg0)) (W (Proc.devRef .tc main_arg1)) (W (Proc.devRef .tc main_arg2))
      (W (Proc.devRef .tc main_arg3))) := by
  after_reads_simp
  rfl

/-- The opening lines leave the fractions. -/
theorem opening_fraction : StableHlo.after opening W (Proc.devRef .tc main_v32)
    = fraction (points (W (Proc.devRef .tc main_arg0)) (W (Proc.devRef .tc main_arg1)) (W (Proc.devRef .tc main_arg2))
      (W (Proc.devRef .tc main_arg3))) := by
  after_reads_simp
  rfl

/-- The opening lines leave the rays' places in the batch. -/
theorem opening_place : StableHlo.after opening W (Proc.devRef .tc main_v34) = place (W (Proc.devRef .tc main_arg5)) := by
  after_reads_simp
  rfl

/-- The opening lines leave the samples' values. -/
theorem opening_values : StableHlo.after opening W (Proc.devRef .tc main_v38)
    = values (W (Proc.devRef .tc main_arg4)) (W (Proc.devRef .tc main_arg2)) (W (Proc.devRef .tc main_arg3)) := by
  after_reads_simp
  rfl

/-- The opening lines leave the zero grid. -/
theorem opening_zeros : StableHlo.after opening W (Proc.devRef .tc main_v39) = zeros := by
  after_reads_simp
  rfl

end Reads

end Cert.Splat

end
-- ==== Proof.CornersA.lean ====
module

public import proofs.«01_k».proof.Proof.Corner
public import proofs.«01_k».proof.Proof.HostCuts

@[expose] public section

/-! # The first and the second corner's lines, read -/

set_option maxRecDepth 16384
set_option maxHeartbeats 2000000

noncomputable section

namespace Cert.Splat

open Idealize.ShloMosaic Idealize.ShloMosaic.TcCoe
open Cert.KernelIdeal Cert.KernelIdeal.Gen

variable {F : FTy → Type} [FloatOps F]

/-- The first corner's lines are that corner's scatter. -/
theorem corner1_grid (W : Valuation τ sig (Elt F)) : StableHlo.after corner1 W (Proc.devRef .tc main_v109)
    = corner false false false (W (Proc.devRef .tc main_v33)) (W (Proc.devRef .tc main_v32)) (W (Proc.devRef .tc main_v34))
      (W (Proc.devRef .tc main_v38)) (W (Proc.devRef .tc main_v39)) := by
  after_reads_simp
  rfl

/-- The second corner's lines are that corner's scatter. -/
theorem corner2_grid (W : Valuation τ sig (Elt F)) : StableHlo.after corner2 W (Proc.devRef .tc main_v177)
    = corner true false false (W (Proc.devRef .tc main_v33)) (W (Proc.devRef .tc main_v32)) (W (Proc.devRef .tc main_v34))
      (W (Proc.devRef .tc main_v38)) (W (Proc.devRef .tc main_v109)) := by
  after_reads_simp
  rfl

end Cert.Splat

end
-- ==== Proof.CornersB.lean ====
module

public import proofs.«01_k».proof.Proof.Corner
public import proofs.«01_k».proof.Proof.HostCuts

@[expose] public section

/-! # The third and the fourth corner's lines, read -/

set_option maxRecDepth 16384
set_option maxHeartbeats 2000000

noncomputable section

namespace Cert.Splat

open Idealize.ShloMosaic Idealize.ShloMosaic.TcCoe
open Cert.KernelIdeal Cert.KernelIdeal.Gen

variable {F : FTy → Type} [FloatOps F]

/-- The third corner's lines are that corner's scatter. -/
theorem corner3_grid (W : Valuation τ sig (Elt F)) : StableHlo.after corner3 W (Proc.devRef .tc main_v245)
    = corner false true false (W (Proc.devRef .tc main_v33)) (W (Proc.devRef .tc main_v32)) (W (Proc.devRef .tc main_v34))
      (W (Proc.devRef .tc main_v38)) (W (Proc.devRef .tc main_v177)) := by
  after_reads_simp
  rfl

/-- The fourth corner's lines are that corner's scatter. -/
theorem corner4_grid (W : Valuation τ sig (Elt F)) : StableHlo.after corner4 W (Proc.devRef .tc main_v311)
    = corner true true false (W (Proc.devRef .tc main_v33)) (W (Proc.devRef .tc main_v32)) (W (Proc.devRef .tc main_v34))
      (W (Proc.devRef .tc main_v38)) (W (Proc.devRef .tc main_v245)) := by
  after_reads_simp
  rfl

end Cert.Splat

end
-- ==== Proof.CornersC.lean ====
module

public import proofs.«01_k».proof.Proof.Corner
public import proofs.«01_k».proof.Proof.HostCuts

@[expose] public section

/-! # The fifth and the sixth corner's lines, read -/

set_option maxRecDepth 16384
set_option maxHeartbeats 2000000

noncomputable section

namespace Cert.Splat

open Idealize.ShloMosaic Idealize.ShloMosaic.TcCoe
open Cert.KernelIdeal Cert.KernelIdeal.Gen

variable {F : FTy → Type} [FloatOps F]

/-- The fifth corner's lines are that corner's scatter. -/
theorem corner5_grid (W : Valuation τ sig (Elt F)) : StableHlo.after corner5 W (Proc.devRef .tc main_v379)
    = corner false false true (W (Proc.devRef .tc main_v33)) (W (Proc.devRef .tc main_v32)) (W (Proc.devRef .tc main_v34))
      (W (Proc.devRef .tc main_v38)) (W (Proc.devRef .tc main_v311)) := by
  after_reads_simp
  rfl

/-- The sixth corner's lines are that corner's scatter. -/
theorem corner6_grid (W : Valuation τ sig (Elt F)) : StableHlo.after corner6 W (Proc.devRef .tc main_v445)
    = corner true false true (W (Proc.devRef .tc main_v33)) (W (Proc.devRef .tc main_v32)) (W (Proc.devRef .tc main_v34))
      (W (Proc.devRef .tc main_v38)) (W (Proc.devRef .tc main_v379)) := by
  after_reads_simp
  rfl

end Cert.Splat

end
-- ==== Proof.CornersD.lean ====
module

public import proofs.«01_k».proof.Proof.Corner
public import proofs.«01_k».proof.Proof.HostCuts

@[expose] public section

/-! # The seventh and the eighth corner's lines, read -/

set_option maxRecDepth 16384
set_option maxHeartbeats 2000000

noncomputable section

namespace Cert.Splat

open Idealize.ShloMosaic Idealize.ShloMosaic.TcCoe
open Cert.KernelIdeal Cert.KernelIdeal.Gen

variable {F : FTy → Type} [FloatOps F]

/-- The seventh corner's lines are that corner's scatter. -/
theorem corner7_grid (W : Valuation τ sig (Elt F)) : StableHlo.after corner7 W (Proc.devRef .tc main_v511)
    = corner false true true (W (Proc.devRef .tc main_v33)) (W (Proc.devRef .tc main_v32)) (W (Proc.devRef .tc main_v34))
      (W (Proc.devRef .tc main_v38)) (W (Proc.devRef .tc main_v445)) := by
  after_reads_simp
  rfl

/-- The eighth corner's lines are that corner's scatter. -/
theorem corner8_grid (W : Valuation τ sig (Elt F)) : StableHlo.after corner8 W (Proc.devRef .tc main_v575)
    = corner true true true (W (Proc.devRef .tc main_v33)) (W (Proc.devRef .tc main_v32)) (W (Proc.devRef .tc main_v34))
      (W (Proc.devRef .tc main_v38)) (W (Proc.devRef .tc main_v511)) := by
  after_reads_simp
  rfl

end Cert.Splat

end
-- ==== Proof.Grid.lean ====
module

public import proofs.«01_k».proof.Proof.Opening
public import proofs.«01_k».proof.Proof.CornersA
public import proofs.«01_k».proof.Proof.CornersB
public import proofs.«01_k».proof.Proof.CornersC
public import proofs.«01_k».proof.Proof.CornersD
public import Idealize.ShloMosaic.Lib.Pipeline.Frame

@[expose] public section

/-! # The grid when the region starts

The opening lines and the eight corners' lines, one after the other, leave `splat` of the arguments. -/

set_option maxRecDepth 16384

noncomputable section

namespace Cert.Splat

open Idealize.ShloMosaic Idealize.ShloMosaic.TcCoe
open Cert.KernelIdeal Cert.KernelIdeal.Gen

variable {F : FTy → Type} [FloatOps F]

/-- The buffers between two corners: the cells, the fractions, the places, the values, and the grid so far, the last read by
    `grid`. -/
structure Between (W : Valuation τ sig (Elt F)) (c : S16384x64x3.Idx → BitVec 32) (f : FVec F S16384x64x3 .f32)
    (g : S16384x1.Idx → BitVec 32) (v : FVec F S16384x1x32 .f32) (grid : Valuation τ sig (Elt F) → FVec F S262144x32 .f32)
    (sofar : FVec F S262144x32 .f32) : Prop where
  /-- The cells. -/
  cells : W (Proc.devRef .tc main_v33) = c
  /-- The fractions. -/
  fractions : W (Proc.devRef .tc main_v32) = f
  /-- The places in the batch. -/
  places : W (Proc.devRef .tc main_v34) = g
  /-- The values. -/
  vals : W (Proc.devRef .tc main_v38) = v
  /-- The grid so far. -/
  grid_eq : grid W = sofar

/-- One corner's lines, which write past the opening's buffers, take one grid to the next and keep the rest. -/
theorem Between.next {W : Valuation τ sig (Elt F)} {c : S16384x64x3.Idx → BitVec 32} {f : FVec F S16384x64x3 .f32}
    {g : S16384x1.Idx → BitVec 32} {v : FVec F S16384x1x32 .f32} {grid : Valuation τ sig (Elt F) → FVec F S262144x32 .f32}
    {sofar : FVec F S262144x32 .f32} (h : Between W c f g v grid sofar) {ops : List (HloOp τ sig (Elt F))}
    (late : ops.Forall (Late 53)) {dx dy dz : Bool} {grid' : Valuation τ sig (Elt F) → FVec F S262144x32 .f32}
    (read : ∀ V, grid' (StableHlo.after ops V) = corner dx dy dz (V (Proc.devRef .tc main_v33)) (V (Proc.devRef .tc main_v32))
      (V (Proc.devRef .tc main_v34)) (V (Proc.devRef .tc main_v38)) (grid V)) :
    Between (StableHlo.after ops W) c f g v grid' (corner dx dy dz c f g v sofar) where
  cells := (after_late late main_v33 (by decide) W).trans h.cells
  fractions := (after_late late main_v32 (by decide) W).trans h.fractions
  places := (after_late late main_v34 (by decide) W).trans h.places
  vals := (after_late late main_v38 (by decide) W).trans h.vals
  grid_eq := by rw [read, h.cells, h.fractions, h.places, h.vals, h.grid_eq]

/-- Nine stretches run as one are the nine run in turn. -/
theorem after_stretches (o a b c d e f g h : List (HloOp τ sig (Elt F))) (W : Valuation τ sig (Elt F)) :
    StableHlo.after (o ++ (a ++ (b ++ (c ++ (d ++ (e ++ (f ++ (g ++ h)))))))) W
      = StableHlo.after h (StableHlo.after g (StableHlo.after f (StableHlo.after e (StableHlo.after d (StableHlo.after c
        (StableHlo.after b (StableHlo.after a (StableHlo.after o W)))))))) := by
  simp only [StableHlo.after_append]

/-- The lines before the region leave `splat` of the arguments. -/
theorem grid_read (W : Valuation τ sig (Elt F)) :
    StableHlo.after (lists (F := F)).flatten W (Proc.devRef .tc main_v575)
      = splat (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  obtain ⟨l1, l2, l3, l4, l5, l6, l7, l8⟩ := corners_late (F := F)
  have h0 : Between (StableHlo.after opening W) _ _ _ _ (fun V => V (Proc.devRef .tc main_v39)) zeros :=
    ⟨opening_cell W, opening_fraction W, opening_place W, opening_values W, opening_zeros W⟩
  have h1 := h0.next l1 (grid' := fun V => V (Proc.devRef .tc main_v109)) corner1_grid
  have h2 := h1.next l2 (grid' := fun V => V (Proc.devRef .tc main_v177)) corner2_grid
  have h3 := h2.next l3 (grid' := fun V => V (Proc.devRef .tc main_v245)) corner3_grid
  have h4 := h3.next l4 (grid' := fun V => V (Proc.devRef .tc main_v311)) corner4_grid
  have h5 := h4.next l5 (grid' := fun V => V (Proc.devRef .tc main_v379)) corner5_grid
  have h6 := h5.next l6 (grid' := fun V => V (Proc.devRef .tc main_v445)) corner6_grid
  have h7 := h6.next l7 (grid' := fun V => V (Proc.devRef .tc main_v511)) corner7_grid
  have h8 := h7.next l8 (grid' := fun V => V (Proc.devRef .tc main_v575)) corner8_grid
  have run := (congrArg (fun ops => StableHlo.after ops W) (flatten_lists (F := F))).trans (after_stretches _ _ _ _ _ _ _ _ _ W)
  exact (congrFun run (Proc.devRef .tc main_v575)).trans h8.grid_eq

end Cert.Splat

end
-- ==== Proof.Launch.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.HostCuts
public import Idealize.ShloMosaic.Lib.Pipeline.FrameBody
public import Idealize.ShloMosaic.Lib.Pipeline.FrameSuffix
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

/-! # The kernel run

The kernel is long host work, one region that copies the finished grid block by block, and one reshape. Here the region is
run: what a block holds, what the array holds after the region, what the result buffer holds after the reshape. -/

set_option maxRecDepth 16384

noncomputable section

namespace Cert.Splat.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What the buffers of device `c` hold when the region starts: the launch memory after the host lines before it. -/
abbrev entry (c : Dev nD) : Valuation τ sig (Elt F) := StableHlo.after (lists (F := F)).flatten fun b => m (c, b)

/-- The same contents at one buffer. -/
abbrev entryAt (c : Dev nD) (b : Ref sig .tc) : Buf (Elt F) ((c : Thread nD τ).loc b) := entry m c (Proc.devRef .tc b)

/-- The lines before the region touch buffers of the launch only. -/
theorem lists_sub : (lists (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩

/-- The lines before the region allocate nothing. -/
theorem lists_fresh : (lists (F := F)).Forall fun ops => ops.Forall fun op => op.fresh = ∅ :=
  List.forall_iff_forall_mem.mpr fun ops hops => fresh_of_late (List.forall_iff_forall_mem.mp lists_late ops hops)

set_option maxHeartbeats 800000 in
/-- The program is the lines before the region, the region, and the line after it. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain ([hostOps1].map StableHlo.seq)) :=
  Pipeline.hmain_around cfgs 0 defs₀ 𝒱₀ m main lists [hostOps1] lists_sub lists_fresh main_chain

/-- The line after the region writes past the arguments and both arrays of the region. -/
theorem last_late : (hostOps1 (F := F)).Forall (Late 906) := ⟨rfl, _, rfl, by decide⟩

/-- The line after the region touches buffers of the launch only. -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)

/-- It allocates nothing. -/
theorem last_fresh : ∀ ops ∈ ([hostOps1] : List (List (HloOp τ sig (Elt F)))), ∀ op ∈ ops, op.fresh = ∅ := by
  intro ops hops op hop
  obtain rfl := List.mem_singleton.mp hops
  exact List.forall_iff_forall_mem.mp (fresh_of_late last_late) op hop

/-- It writes neither array of the region. -/
theorem last_keeps : ∀ ops ∈ ([hostOps1] : List (List (HloOp τ sig (Elt F)))), ∀ op ∈ ops,
    ∀ w, Proc.devRef .tc (Pipeline.arrRef spec0 w) ∉ op.writes := by
  intro ops hops op hop w hmem
  obtain rfl := List.mem_singleton.mp hops
  obtain ⟨b, hb, hn⟩ := (List.forall_iff_forall_mem.mp last_late op hop).writes
  rw [hb, Finset.mem_singleton] at hmem
  have := Proc.devRef_injective _ hmem
  subst this
  revert hn
  fin_cases w <;> decide

/-- A buffer before the first result, so every argument, is at the region's start as launched. -/
theorem entry_arg (c : Dev nD) (b : Ref sig .tc) (hb : b.idx.val < 6) : entryAt m c b = m ((c : Thread nD τ).loc b) := by
  refine after_late (n := 6) (List.forall_iff_forall_mem.mpr fun op hop => ?_) b hb _
  obtain ⟨ops, hops, hop⟩ := List.mem_flatten.mp hop
  exact List.forall_iff_forall_mem.mp (List.forall_iff_forall_mem.mp lists_late ops hops) op hop

/-- It is at the program's end as launched too. -/
theorem exit_arg (dats : (p : Fin _) → (c : Dev nD) → Dat τ (Elt F) Unit ℕ (UR sig nD τ) ℕ (cfgs p) c) (c : Dev nD)
    (b : Ref sig .tc) (hb : b.idx.val < 6) (hne : ∀ w, Pipeline.arrRef spec0 w ≠ b) :
    Pipeline.afterTail₀ cfgs dats 0 (entry m) [hostOps1] c b = m ((c : Thread nD τ).loc b) := by
  unfold Pipeline.afterTail₀
  rw [List.flatten_cons, List.flatten_nil, List.append_nil, after_late last_late b (by omega),
    Pipeline.withArrays_of_ne _ c (entry m c) _ b hne]
  exact entry_arg m c b hb

/-! ## The copy of one block -/

/-- Window `w`'s block at grid point `t`, read off its array at the region's start. -/
def block (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The rectangle the body loads and stores: the whole block. -/
abbrev whole : Rect S4096x32 := Rect.unit (s := S4096x32) ![0, 0] S4096x32.size inb_S4096x32_S4096x32_0_0

/-- What the body leaves in the output block: what it loaded. -/
def copied (x : Vec F S4096x32 .f32) : Vec F S4096x32 .f32 := View.canon [⟨whole, k0_pay1 (View.ld x whole)⟩]

/-- The output block is the input block. -/
theorem copied_eq (x : Vec F S4096x32 .f32) : copied x = x := by
  have hz : (![0, 0] : Fin S4096x32.rank → ℕ) = fun _ => 0 := by decide
  unfold copied
  rw [View.canon_unit_zero hz, View.ld_unit_zero hz]
  exact funext fun y => shapeCast_apply x _ y y rfl

/-- The one store covers the block. -/
theorem whole_cover (p : Vec F S4096x32 .f32) (y : S4096x32.Idx) :
    ∃ pc ∈ ([⟨whole, p⟩] : List (View.Piece (Elt F) S4096x32 .f32)), y ∈ pc.1.set :=
  View.cover_of_tiled [⟨whole, p⟩] S4096x32.size (by rfl) y

set_option maxHeartbeats 1000000 in
/-- The body, run on whole staging blocks: the input's stays, the output's becomes the copy. -/
theorem body_sound (c : Dev nD) (E : Set ℕ) (i : grid0.Coords) (arg1 : Memref sig .tc .vmem S4096x32 .f32) (harg1 : arg1.IsWhole) (arg2 : Memref sig .tc .vmem S4096x32 .f32) (harg2 : arg2.IsWhole)
    (x0 : Vec F S4096x32 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (copied x0)) -∗ K ⟨⟩))
      ⊢ wp frame (wpE (defs₀ (F := F)) Variants.none c none) E (cc0__scale_body i arg1 harg1 arg2 harg2) K := by
  simp only [cc0__scale_body_eq_skeleton]; unfold cc0__scale_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (whole_cover _)

/-! ## The region -/

/-- The region's data on device `c`: the arrays as found, the input blocks left in place, the output blocks copied. -/
def dats (_ : Fin 1) (c : Dev nD) : Dat τ (Elt F) Unit ℕ (UR sig nD τ) ℕ cfg0 c where
  A w := entryAt m c (Pipeline.arrRef spec0 w)
  after w t := match w with
    | ⟨0, _⟩ => block m c 0 t
    | ⟨1, _⟩ => copied (block m c 0 t)
  Φ _ := Pipeline.ΦA spec0 c
  q _ := fullShare
  owed _ := 0

/-- The arrays of the data are the contents at the region's start. -/
theorem dats_A (c : Dev nD) (w : Fin cfg0.W) : (dats m 0 c).A w = entryAt m c (Pipeline.arrRef spec0 w) := by
  dsimp only [dats]

/-- The body leaves the input block. -/
theorem after_in (c : Dev nD) (t : Fin cfg0.N) : (dats m 0 c).after 0 t = block m c 0 t := by dsimp only [dats]

/-- The body leaves the copy in the output block. -/
theorem after_out (c : Dev nD) (t : Fin cfg0.N) : (dats m 0 c).after 1 t = copied (block m c 0 t) := by dsimp only [dats]

/-- The input block is in place when the body starts. -/
theorem before_in (c : Dev nD) (t : Fin cfg0.N) (d) : (dats m 0 c).before 0 t d = block m c 0 t :=
  ((dats m 0 c).before_in_eq_fetched 0 rfl (fun _ => rfl) (fun _ _ _ => rfl)
    (fun t => by rw [after_in]; unfold Dat.blockOf block; rw [dats_A]; try rfl) t d).trans
    (by unfold Dat.fetched Dat.blockOf block; rw [dats_A]; try rfl)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at point `t` turns the one into the other. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_sound c Set.univ (grid0.coords t) _ _ _ _ (block m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's entry in the table of bodies is the body at the point's buffers. -/
theorem body_row (t : Fin cfg0.N) :
    defs₀ (F := F) .tc cfg0.body (cfg0.bodyArgs t (cfg0.slots t)) = bodyAt0 t := by
  unfold defs₀; rw [Defs.onTc_tc]

/-- The body meets the region's demand at every point. -/
theorem body_meets (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
set_option maxHeartbeats 800000 in
/-- The whole program runs: each array of the region ends as the data say, every other buffer as the last line leaves it,
    and every counter ends at zero. -/
theorem run_all : θ_run defs (onTc (τ := τ) (main (F := F))) (s₀ m ρ) (fun r =>
    (Pipeline.FramePost cfgs (dats m) 0 (Pipeline.afterTail₀ cfgs (dats m) 0 (entry m) [hostOps1])) r ∧ r.2.sem = fun _ => 0) :=
  Pipeline.θ_run_frame_around (Q' := _) cfgs (dats m) (0 : Fin 1) launch0 defs₀ Variants.none m ρ main
    (hbody := fun c => (body_meets m c).loose) (hshare := fun c => (dats m 0 c).share_full fun _ => rfl)
    (howed := fun _ _ => rfl) (V₀ := entry m) (opss := [hostOps1]) (hsub := last_sub) (hfresh := last_fresh) (hkeep := last_keeps)
    (hmain := main_around m Variants.none) (hA := dats_A m) (hΦ := fun _ _ => rfl)

/-! ## The result -/

/-- After the region the output array is the input array. -/
theorem array_out (c : Dev nD) : (dats m 0 c).arrAt 1 cfg0.N = entryAt m c main_v575 := by
  refine (dats m 0 c).arrAt_eq_of_covers 1 _ (by decide +kernel) fun t _ y => ?_
  rw [after_out, copied_eq]
  rfl

/-- The last line reshapes the output array into the result buffer. -/
theorem last_result (W : Valuation τ sig (Elt F)) : StableHlo.after hostOps1 W (Proc.devRef .tc main_v577)
    = shapeCast S1x64x64x64x32 (W (Proc.devRef .tc main_v576)) shapeCasts_S262144x32_S1x64x64x64x32 := by
  after_reads_simp
  try rfl

/-- The result buffer at the program's end: the finished grid, as it stood when the region started, in the result's shape. -/
theorem exit_result (c : Dev nD) :
    Pipeline.afterTail₀ cfgs (dats m) 0 (entry m) [hostOps1] c main_v577
      = shapeCast S1x64x64x64x32 (entryAt m c main_v575) shapeCasts_S262144x32_S1x64x64x64x32 := by
  unfold Pipeline.afterTail₀
  rw [List.flatten_cons, List.flatten_nil, List.append_nil]
  rw [last_result]
  exact congrArg (fun x : FVec F S262144x32 .f32 => shapeCast S1x64x64x64x32 x shapeCasts_S262144x32_S1x64x64x64x32)
    ((Pipeline.withArrays_arr spec0 (by decide) c _ _ 1).trans (array_out m c))

/-- The program ends with the finished grid in the result buffer, the arguments as launched, and every counter at zero. -/
theorem run : θ_run defs (onTc (τ := τ) (main (F := F))) ⟨m, fun _ => 0, ρ⟩ (fun r => (∀ c : Dev nD,
      r.2.mem ((c.tc : Thread nD τ).loc main_v577)
        = shapeCast S1x64x64x64x32 (entryAt m c main_v575) shapeCasts_S262144x32_S1x64x64x64x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (run_all m ρ)
  have arg : ∀ b : Ref sig .tc, b.isScoped = false → b.idx.val < 6 → (∀ w, Pipeline.arrRef spec0 w ≠ b) →
      r.2.mem ((c.tc : Thread nD τ).loc b) = m ((c.tc : Thread nD τ).loc b) :=
    fun b hs hi hne => ((h.1 c).2 b (Pipeline.mem_restRefs_of b hs hne)).trans (exit_arg m (dats m) c b hi hne)
  exact ⟨((h.1 c).2 main_v577 (Pipeline.mem_restRefs_of main_v577 (by decide) (by decide))).trans (exit_result m c),
    arg main_arg0 (by decide) (by decide) (by decide), arg main_arg1 (by decide) (by decide) (by decide),
    arg main_arg2 (by decide) (by decide) (by decide), arg main_arg3 (by decide) (by decide) (by decide),
    arg main_arg4 (by decide) (by decide) (by decide), arg main_arg5 (by decide) (by decide) (by decide)⟩

end Cert.Splat.KernelIdeal

end
-- ==== Proof.Results.lean ====
/- What the kernel leaves: the grid of its arguments, cut into the batch's volumes — as printed, on the words, and as
   idealized, at any number type. -/
module

public import proofs.«01_k».proof.Proof.Grid
public import proofs.«01_k».proof.Proof.Launch
public import proofs.«01_k».proof.Proof.LaunchBits

@[expose] public section

noncomputable section

namespace Cert.Splat

open Idealize.ShloMosaic Idealize.ShloMosaic.TcCoe

variable {F : FTy → Type} [FloatOps F]

section Idealized

open Cert.KernelIdeal Cert.KernelIdeal.Gen

variable (m : (ℓ : Loc nD τ sig) → Buf (Elt F) ℓ) (c : Dev nD)

/-- The array the idealized kernel's region reads is the grid of the arguments. -/
theorem KernelIdeal.grid_eq : KernelIdeal.entryAt m c main_v575
    = splat (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  grid_read fun b => m (c, b)

end Idealized

section Printed

open Cert.Kernel Cert.Kernel.Gen

variable (m : (ℓ : Loc nD τ sig) → Buf (Elt F) ℓ) (c : Dev nD)

/-- The array the printed kernel's region reads is the grid of the arguments. -/
theorem Kernel.grid_eq : Kernel.entryAt m c main_v575
    = splat (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Kernel.entryAt Kernel.entry
  rw [Kernel.lists_eq]
  exact grid_read fun b => m (c, b)

end Printed

end Cert.Splat

end
-- ==== Proof.Scatter.lean ====
/- A scatter of rows into the flat grid, over the extended reals: a voxel's entry is what it held and the sum of the entries
   of the rows sent to it. -/
module

public import proofs.«01_k».proof.Proof.Gen.KernelIdeal
public import Idealize.ShloMosaic.Lib.ValueIdx
public import Idealize.ShloMosaic.Lib.Routing.OpsPair

@[expose] public section

set_option maxRecDepth 16384

noncomputable section

namespace Cert.Splat

open Idealize.ShloMosaic Idealize.ShloMosaic.TcCoe Idealize.ShloMosaic.ValueIdx Idealize.ShloMosaic.Routing
open Cert.KernelIdeal Cert.KernelIdeal.Gen
open scoped BigOperators

/-- The update entry `(k, b)` lands on the entry `(r, c)` exactly when row `k`'s number is `r` and the channel is the same. -/
theorem lands (idx : IVec S1048576x1 32) (k : Fin 1048576) (b : Fin 32) (r : Fin 262144) (c : Fin 32) :
    scatter_S262144x32_S1048576x1_S1048576x32_1_0_0_1.resultIdx? (ix2 k b) idx = some (ix2 r c)
      ↔ (idx (ix2 k (0 : Fin 1))).toInt = (r.val : Int) ∧ b = c := by
  refine (resultIdx?_ix2 scatter_S262144x32_S1048576x1_S1048576x32_1_0_0_1 (ix2 k b) idx r c).trans ?_
  have s0 : scatter_S262144x32_S1048576x1_S1048576x32_1_0_0_1.start (ix2 k b) idx 0 = (idx (ix2 k (0 : Fin 1))).toInt := by
    show (idx _).toInt = _
    congr 2
    funext a
    match a with
    | ⟨0, _⟩ => rfl
    | ⟨1, _⟩ => rfl
  have s1 : scatter_S262144x32_S1048576x1_S1048576x32_1_0_0_1.start (ix2 k b) idx 1 = 0 := rfl
  have w0 : scatter_S262144x32_S1048576x1_S1048576x32_1_0_0_1.window (ix2 k b) 0 = 0 := rfl
  have w1 : scatter_S262144x32_S1048576x1_S1048576x32_1_0_0_1.window (ix2 k b) 1 = b.val := rfl
  rw [s0, s1, w0, w1, Fin.ext_iff]
  omega

/-- An entry after the scatter. -/
theorem scatter_apply (grid : FVec Ideal S262144x32 .f32) (idx : IVec S1048576x1 32) (upd : FVec Ideal S1048576x32 .f32)
    (r : Fin 262144) (c : Fin 32) :
    Host.scatterAdd scatter_S262144x32_S1048576x1_S1048576x32_1_0_0_1 grid idx upd (ix2 r c)
      = (grid (ix2 r c) + ∑ k : Fin 1048576, if (idx (ix2 k (0 : Fin 1))).toInt = (r.val : Int) then upd (ix2 k c) else 0 : EReal) := by
  show (grid (ix2 r c) + ∑ j ∈ Finset.univ.filter
    (fun j => scatter_S262144x32_S1048576x1_S1048576x32_1_0_0_1.resultIdx? j idx = some (ix2 r c)), upd j : EReal) = _
  rw [Finset.sum_filter, sum_idx2]
  refine congrArg _ (Finset.sum_congr rfl fun k _ => ?_)
  simp only [lands]
  by_cases h : (idx (ix2 k (0 : Fin 1))).toInt = (r.val : Int)
  · simp [h]
  · simp [h]

/-- The place of a ray's sample in the list of all samples. -/
def nth (n : Fin 16384) (s : Fin 64) : Fin 1048576 := ⟨n.val * 64 + s.val, by omega⟩

/-- A sum over all samples is the sum over the rays and each one's samples. -/
theorem sum_samples (f : Fin 1048576 → EReal) : ∑ k, f k = ∑ n : Fin 16384, ∑ s : Fin 64, f (nth n s) := by
  have e : (16384 * 64 : ℕ) = 1048576 := by norm_num
  rw [← Equiv.sum_comp (finProdFinEquiv.trans (finCongr e)) f, Fintype.sum_prod_type]
  refine Finset.sum_congr rfl fun n _ => Finset.sum_congr rfl fun s _ => congrArg f (Fin.ext ?_)
  simp [nth, finProdFinEquiv]
  omega

end Cert.Splat

end
-- ==== Proof.Words.lean ====
/- The 32-bit words of a scatter's row numbers. A corner in the grid names its own row; a corner outside it adds nothing;
   a ray of another volume of the batch names a row past the first volume's. -/
module

public import proofs.«01_k».proof.Proof.Hat
public import Idealize.ShloMosaic.Lib.WordCmp
public import Idealize.ShloMosaic.Lib.Routing.OpsPair

@[expose] public section

noncomputable section

namespace Cert.Splat

open Idealize.ShloMosaic Idealize.ShloMosaic.WordCmp Idealize.ShloMosaic.Routing

/-- A word brought into the range 0 to 63. -/
def clampWord (v : BitVec 32) : BitVec 32 := IntOp.minsi 63#32 (IntOp.maxsi 0#32 v)

/-- The row of a voxel: the volume's first row, then the planes, the lines and the voxels before it. -/
def rowWord (g x y z : BitVec 32) : BitVec 32 :=
  IntOp.addi (IntOp.muli (IntOp.addi (IntOp.muli (IntOp.addi (IntOp.muli g 64#32) z) 64#32) y) 64#32) x

/-- A row number, a negative one counted from the end. -/
def wrapWord (r : BitVec 32) : BitVec 32 := Scalar.select (IntOp.cmpi .slt r 0#32) (IntOp.addi r 262144#32) r

/-- Whether three coordinates are each from 0 to 63. -/
def insideWord (x y z : BitVec 32) : BitVec 1 :=
  IntOp.andi (IntOp.andi (IntOp.andi (IntOp.andi (IntOp.andi (IntOp.cmpi .sge x 0#32) (IntOp.cmpi .slt x 64#32))
    (IntOp.cmpi .sge y 0#32)) (IntOp.cmpi .slt y 64#32)) (IntOp.cmpi .sge z 0#32)) (IntOp.cmpi .slt z 64#32)

/-- A word read as a signed integer, in the range 0 to 63. -/
def Fits (v : BitVec 32) : Prop := 0 ≤ v.toInt ∧ v.toInt < 64

instance (v : BitVec 32) : Decidable (Fits v) := inferInstanceAs (Decidable (_ ∧ _))

/-- A clamped word is below 64. -/
theorem clampWord_lt (v : BitVec 32) : (clampWord v).toNat < 64 := by
  have h0 : (0#32).toInt = 0 := rfl
  have h1 : (63#32).toInt = 63 := rfl
  have hv := v.toInt_eq_toNat_cond
  unfold clampWord IntOp.minsi IntOp.maxsi
  simp only [BitVec.slt, decide_eq_true_eq]
  by_cases h : v.toInt < (0#32).toInt
  · rw [if_pos h]; decide
  · rw [if_neg h]
    by_cases hs : (63#32).toInt < v.toInt
    · rw [if_pos hs]; decide
    · rw [if_neg hs]
      rw [h0] at h
      rw [h1] at hs
      split at hv <;> omega

/-- A word in the range is left as it is. -/
theorem clampWord_of_fits (v : BitVec 32) (h : Fits v) : clampWord v = v := by
  have h0 : (0#32).toInt = 0 := rfl
  have h1 : (63#32).toInt = 63 := rfl
  have hn : ¬ v.toInt < (0#32).toInt := by rw [h0]; exact not_lt.mpr h.1
  unfold clampWord IntOp.minsi IntOp.maxsi
  simp only [BitVec.slt, decide_eq_true_eq]
  rw [if_neg hn]
  by_cases hs : (63#32).toInt < v.toInt
  · have := h.2; rw [h1] at hs; omega
  · rw [if_neg hs]

/-- A coordinate of the grid, as a word, is in the range. -/
theorem fits_ofNat (n : ℕ) (hn : n < 64) : Fits (BitVec.ofNat 32 n) := by
  have : (BitVec.ofNat 32 n).toInt = (n : Int) := toInt_ofNat_of_lt (by omega)
  unfold Fits
  omega

/-- The test of the three ranges is the conjunction of the three. -/
theorem insideWord_eq (x y z : BitVec 32) : insideWord x y z = BitVec.ofBool (decide (Fits x ∧ Fits y ∧ Fits z)) := by
  have h0 : (0#32).toInt = 0 := rfl
  have h1 : (64#32).toInt = 64 := rfl
  unfold insideWord
  simp only [cmpi_slt_eq, cmpi_sge_eq, andi_ofBool, h0, h1]
  congr 1
  simp only [Fits, ← Bool.decide_and]
  apply decide_eq_decide.mpr
  tauto

/-- The row word of a volume below 8192 and a voxel of the grid is the row number itself. -/
theorem rowWord_toNat (g x y z : BitVec 32) (hg : g.toNat < 8192) (hx : x.toNat < 64) (hy : y.toNat < 64)
    (hz : z.toNat < 64) : (rowWord g x y z).toNat = ((g.toNat * 64 + z.toNat) * 64 + y.toNat) * 64 + x.toNat := by
  unfold rowWord IntOp.addi IntOp.muli
  simp only [BitVec.toNat_add, BitVec.toNat_mul, BitVec.toNat_ofNat]
  omega

/-- Such a row number does not wrap. -/
theorem wrapWord_toInt (g x y z : BitVec 32) (hg : g.toNat < 8192) (hx : x.toNat < 64) (hy : y.toNat < 64)
    (hz : z.toNat < 64) :
    (wrapWord (rowWord g x y z)).toInt = (((g.toNat * 64 + z.toNat) * 64 + y.toNat) * 64 + x.toNat : ℕ) := by
  have hr := rowWord_toNat g x y z hg hx hy hz
  have hlt : (rowWord g x y z).toNat < 2 ^ (32 - 1) := by omega
  unfold wrapWord
  rw [wrap_of_lt _ _ hlt, toInt_eq_toNat_of_lt_half hlt, hr]

/-- The row number is a given voxel's of the first volume exactly when the volume is the first and the coordinates agree. -/
theorem row_iff (g x y z X Y Z : ℕ) (hx : x < 64) (hy : y < 64) (hz : z < 64) (hX : X < 64) (hY : Y < 64) (hZ : Z < 64) :
    ((g * 64 + z) * 64 + y) * 64 + x = (Z * 64 + Y) * 64 + X ↔ g = 0 ∧ x = X ∧ y = Y ∧ z = Z := by omega

/-- What one corner of one sample adds to a voxel of the first volume: weight times value if the ray belongs to that
    volume and the corner is the voxel, and nothing otherwise. -/
theorem amount_word (g x y z : BitVec 32) (hg : g.toNat < 8192) (X Y Z : ℕ) (hX : X < 64) (hY : Y < 64) (hZ : Z < 64)
    (w v : EReal) :
    (if (wrapWord (rowWord g (clampWord x) (clampWord y) (clampWord z))).toInt = (((Z * 64 + Y) * 64 + X : ℕ) : Int)
      then Scalar.select (insideWord x y z) w 0 * v else 0)
    = if g = 0#32 ∧ x = BitVec.ofNat 32 X ∧ y = BitVec.ofNat 32 Y ∧ z = BitVec.ofNat 32 Z then w * v else 0 := by
  have hrow : (wrapWord (rowWord g (clampWord x) (clampWord y) (clampWord z))).toInt = (((Z * 64 + Y) * 64 + X : ℕ) : Int)
      ↔ g.toNat = 0 ∧ (clampWord x).toNat = X ∧ (clampWord y).toNat = Y ∧ (clampWord z).toNat = Z := by
    rw [wrapWord_toInt g _ _ _ hg (clampWord_lt x) (clampWord_lt y) (clampWord_lt z), Nat.cast_inj,
      row_iff _ _ _ _ _ _ _ (clampWord_lt x) (clampWord_lt y) (clampWord_lt z) hX hY hZ]
  simp only [hrow, insideWord_eq]
  have word (u : BitVec 32) (n : ℕ) (hn : n < 64) : u.toNat = n ↔ u = BitVec.ofNat 32 n :=
    ⟨fun h => BitVec.eq_of_toNat_eq (by rw [h, toNat_ofNat_of_lt (by omega)]),
      fun h => by rw [h, toNat_ofNat_of_lt (by omega)]⟩
  by_cases hf : Fits x ∧ Fits y ∧ Fits z
  · simp only [clampWord_of_fits x hf.1, clampWord_of_fits y hf.2.1, clampWord_of_fits z hf.2.2, word x X hX, word y Y hY,
      word z Z hZ, word g 0 (by omega)]
    simp [hf, Scalar.select]
  · have hn : ¬ (g = 0#32 ∧ x = BitVec.ofNat 32 X ∧ y = BitVec.ofNat 32 Y ∧ z = BitVec.ofNat 32 Z) := by
      rintro ⟨-, rfl, rfl, rfl⟩
      exact hf ⟨fits_ofNat X hX, fits_ofNat Y hY, fits_ofNat Z hZ⟩
    rw [if_neg hn]
    simp [hf, Scalar.select]

end Cert.Splat

end
-- ==== Proof.Trilinear.lean ====
/- The eight corners of one sample against one voxel: together they add what the product of the three hats gives. -/
module

public import proofs.«01_k».proof.Proof.Hat

@[expose] public section

noncomputable section

namespace Cert.Splat

open Idealize.ShloMosaic

/-- What the corner `dx dy dz` of a sample at `px py pz` with value `v` adds to the voxel `X Y Z` of the first volume,
    `here` telling whether the sample's ray belongs to that volume. -/
def share1 (here : Prop) [Decidable here] (px py pz v : EReal) (X Y Z : ℕ) (dx dy dz : Bool) : EReal :=
  if here ∧ below px + step dx = BitVec.ofNat 32 X ∧ below py + step dy = BitVec.ofNat 32 Y
      ∧ below pz + step dz = BitVec.ofNat 32 Z then tap dx px * tap dy py * tap dz pz * v else 0

/-- The eight corners' additions, in the kernel's order, are the product of the three hats and the value. -/
theorem eight_corners (here : Prop) [Decidable here] (px py pz v : EReal) (X Y Z : ℕ) (hX : X < 64) (hY : Y < 64)
    (hZ : Z < 64) :
    let a := share1 here px py pz v X Y Z
    a false false false + a true false false + a false true false + a true true false
      + a false false true + a true false true + a false true true + a true true true
    = hat pz Z * hat py Y * (hat px X * if here then v else 0) := by
  intro a
  by_cases hh : here
  · rcases hat_cases px X hX with ⟨x0, x1, ex⟩ | ⟨x0, x1, ex⟩ | ⟨x0, x1, ex⟩ <;>
    rcases hat_cases py Y hY with ⟨y0, y1, ey⟩ | ⟨y0, y1, ey⟩ | ⟨y0, y1, ey⟩ <;>
    rcases hat_cases pz Z hZ with ⟨z0, z1, ez⟩ | ⟨z0, z1, ez⟩ | ⟨z0, z1, ez⟩ <;>
    simp only [a, share1, hh, x0, x1, y0, y1, z0, z1, ex, ey, ez, and_true, true_and, and_false, false_and, if_true, if_false,
      add_zero, zero_add, mul_zero, zero_mul] <;>
    ac_rfl
  · simp [a, share1, hh]

end Cert.Splat

end
-- ==== Proof.CornerSum.lean ====
/- One corner's scatter, over the extended reals: each voxel of the first volume gains the sum, over all samples, of what the
   corner of the sample adds to it. -/
module

public import proofs.«01_k».proof.Proof.Opening
public import proofs.«01_k».proof.Proof.Scatter
public import proofs.«01_k».proof.Proof.Words
public import proofs.«01_k».proof.Proof.Trilinear
public import Idealize.ShloMosaic.Lib.IdealHost
public import Idealize.ShloMosaic.Lib.Pipeline.Value

@[expose] public section

set_option maxRecDepth 16384

noncomputable section

namespace Cert.Splat

open Idealize.ShloMosaic Idealize.ShloMosaic.TcCoe Idealize.ShloMosaic.ValueIdx
open Cert.KernelIdeal Cert.KernelIdeal.Gen
open scoped BigOperators

/-- The flat grid's row of a voxel of the first volume. -/
def row (Z Y X : Fin 64) : Fin 262144 := ⟨(Z.val * 64 + Y.val) * 64 + X.val, by omega⟩

section Columns

variable {α : Type} (x : S16384x64x3.Idx → α) (n : Fin 16384) (s : Fin 64)

/-- Dropping the last axis of a one-wide column keeps the entries. -/
theorem column_apply (y : S16384x64x1.Idx → α) :
    shapeCast S16384x64 y shapeCasts_S16384x64x1_S16384x64 (ix2 n s) = y (ix3 n s (0 : Fin 1)) := by
  refine shapeCast_apply y shapeCasts_S16384x64x1_S16384x64 (ix2 n s) (ix3 n s (0 : Fin 1)) ?_
  rw [Shape.rowMajor_val_three, Shape.rowMajor_val_two]
  show (n.val * 64 + s.val) * 1 + 0 = n.val * 64 + s.val
  omega

/-- An entry of the first coordinates. -/
theorem col0_apply : col0 x (ix2 n s) = x (ix3 n s (0 : Fin 3)) := by
  refine (column_apply n s _).trans (congrArg x ?_)
  funext a
  match a with
  | ⟨0, _⟩ => exact Fin.ext (Nat.zero_add _)
  | ⟨1, _⟩ => exact Fin.ext (Nat.zero_add _)
  | ⟨2, _⟩ => rfl

/-- An entry of the second coordinates. -/
theorem col1_apply : col1 x (ix2 n s) = x (ix3 n s (1 : Fin 3)) := by
  refine (column_apply n s _).trans (congrArg x ?_)
  funext a
  match a with
  | ⟨0, _⟩ => exact Fin.ext (Nat.zero_add _)
  | ⟨1, _⟩ => exact Fin.ext (Nat.zero_add _)
  | ⟨2, _⟩ => rfl

/-- An entry of the third coordinates. -/
theorem col2_apply : col2 x (ix2 n s) = x (ix3 n s (2 : Fin 3)) := by
  refine (column_apply n s _).trans (congrArg x ?_)
  funext a
  match a with
  | ⟨0, _⟩ => exact Fin.ext (Nat.zero_add _)
  | ⟨1, _⟩ => exact Fin.ext (Nat.zero_add _)
  | ⟨2, _⟩ => rfl

end Columns

/-- The row number in the list, at a ray's sample. -/
theorem rows_apply (f : S16384x64.Idx → BitVec 32) (n : Fin 16384) (s : Fin 64) :
    rows f (ix2 (nth n s) (0 : Fin 1)) = wrapWord (f (ix2 n s)) := by
  have e : shapeCast S1048576 f shapeCasts_S16384x64_S1048576 (ix1 (nth n s)) = f (ix2 n s) := by
    refine shapeCast_apply f shapeCasts_S16384x64_S1048576 (ix1 (nth n s)) (ix2 n s) ?_
    rw [Shape.rowMajor_val_one, Shape.rowMajor_val_two]
    rfl
  rw [← e]
  rfl

/-- The amount in the list, at a ray's sample and a channel: the sample's weight times the ray's value. -/
theorem amounts_apply (w : FVec Ideal S16384x64 .f32) (vals : FVec Ideal S16384x1x32 .f32) (n : Fin 16384) (s : Fin 64)
    (c : Fin 32) : amounts w vals (ix2 (nth n s) c) = (w (ix2 n s) * vals (ix3 n (0 : Fin 1) c) : EReal) := by
  refine (shapeCast_apply _ shapeCasts_S16384x64x32_S1048576x32 (ix2 (nth n s) c) (ix3 n s c) ?_).trans ?_
  · rw [Shape.rowMajor_val_three, Shape.rowMajor_val_two]
    rfl
  · refine congrArg₂ (fun a b : EReal => a * b) (congrArg w ?_) (congrArg vals ?_) <;> funext a
    · match a with
      | ⟨0, _⟩ => rfl
      | ⟨1, _⟩ => rfl
    · match a with
      | ⟨0, _⟩ => rfl
      | ⟨1, _⟩ => rfl
      | ⟨2, _⟩ => rfl

/-- A corner's weight along an axis, at a sample of coordinate `p`. -/
theorem share_apply (d : Bool) (f : FVec Ideal S16384x64 .f32) (p : EReal) (i : S16384x64.Idx) (h : f i = past p) :
    (share d f i : EReal) = tap d p := by
  cases d
  · show (Ideal.ofBits .f32 0x3F800000#32 - f i : EReal) = 1 - past p
    rw [Ideal.ofBits_one_f32, h]
  · exact h

section Corner

variable (dx dy dz : Bool) (p : FVec Ideal S16384x64x3 .f32) (n : Fin 16384) (s : Fin 64)

/-- A corner's coordinate along the first axis, at a sample. -/
theorem moved0_apply : moved dx (col0 (cell p)) (ix2 n s) = below (p (ix3 n s (0 : Fin 3))) + step dx :=
  congrArg (· + step dx) (col0_apply (cell p) n s)

/-- A corner's coordinate along the second axis, at a sample. -/
theorem moved1_apply : moved dy (col1 (cell p)) (ix2 n s) = below (p (ix3 n s (1 : Fin 3))) + step dy :=
  congrArg (· + step dy) (col1_apply (cell p) n s)

/-- A corner's coordinate along the third axis, at a sample. -/
theorem moved2_apply : moved dz (col2 (cell p)) (ix2 n s) = below (p (ix3 n s (2 : Fin 3))) + step dz :=
  congrArg (· + step dz) (col2_apply (cell p) n s)

/-- A corner's weight, at a sample. -/
theorem weight_apply : (weight dx dy dz (fraction p) (ix2 n s) : EReal)
    = tap dx (p (ix3 n s (0 : Fin 3))) * tap dy (p (ix3 n s (1 : Fin 3))) * tap dz (p (ix3 n s (2 : Fin 3))) := by
  show (share dx (col0 (fraction p)) (ix2 n s) * share dy (col1 (fraction p)) (ix2 n s)
    * share dz (col2 (fraction p)) (ix2 n s) : EReal) = _
  rw [share_apply dx _ _ _ (col0_apply (fraction p) n s), share_apply dy _ _ _ (col1_apply (fraction p) n s),
    share_apply dz _ _ _ (col2_apply (fraction p) n s)]

/-- The kept weights, at a sample: the weight if the corner is inside, else zero. -/
theorem kept_apply (i : S16384x64.Idx → BitVec 1) (w : FVec Ideal S16384x64 .f32) (j : S16384x64.Idx) :
    (kept i w j : EReal) = Scalar.select (i j) (w j) 0 := by
  show (Scalar.select (i j) (w j) (Ideal.ofBits .f32 0x00000000#32) : EReal) = _
  rw [Ideal.ofBits_zero_f32]

/-- The corner's row number, at a sample. -/
theorem flat_apply (g : S16384.Idx → BitVec 32) (x y z : S16384x64.Idx → BitVec 32) :
    flat (place g) (clamped x) (clamped y) (clamped z) (ix2 n s)
      = rowWord (g (ix1 n)) (clampWord (x (ix2 n s))) (clampWord (y (ix2 n s))) (clampWord (z (ix2 n s))) := by
  refine congrArg (fun v => IntOp.addi (IntOp.muli (IntOp.addi (IntOp.muli (IntOp.addi (IntOp.muli v 64#32)
    (clampWord (z (ix2 n s)))) 64#32) (clampWord (y (ix2 n s)))) 64#32) (clampWord (x (ix2 n s)))) (congrArg g ?_)
  funext a
  match a with
  | ⟨0, _⟩ => rfl

/-- Whether the corner is in the grid, at a sample. -/
theorem inside_apply (x y z : S16384x64.Idx → BitVec 32) (j : S16384x64.Idx) :
    inside x y z j = insideWord (x j) (y j) (z j) := rfl

/-- What one corner of one sample adds to a voxel of the first volume. -/
theorem added_apply (g : S16384.Idx → BitVec 32) (hg : ∀ i, (g i).toNat < 8192) (vals : FVec Ideal S16384x1x32 .f32)
    (Z Y X : Fin 64) (c : Fin 32) :
    (if (rows (flat (place g) (clamped (moved dx (col0 (cell p)))) (clamped (moved dy (col1 (cell p))))
          (clamped (moved dz (col2 (cell p))))) (ix2 (nth n s) (0 : Fin 1))).toInt = ((row Z Y X).val : Int)
      then amounts (kept (inside (moved dx (col0 (cell p))) (moved dy (col1 (cell p))) (moved dz (col2 (cell p))))
        (weight dx dy dz (fraction p))) vals (ix2 (nth n s) c) else (0 : EReal))
    = share1 (g (ix1 n) = 0#32) (p (ix3 n s (0 : Fin 3))) (p (ix3 n s (1 : Fin 3))) (p (ix3 n s (2 : Fin 3)))
        (vals (ix3 n (0 : Fin 1) c)) X.val Y.val Z.val dx dy dz := by
  rw [rows_apply, amounts_apply, kept_apply, weight_apply, flat_apply, inside_apply, moved0_apply, moved1_apply,
    moved2_apply]
  exact amount_word _ _ _ _ (hg _) X.val Y.val Z.val X.isLt Y.isLt Z.isLt _ _

/-- A voxel of the first volume after one corner's scatter. -/
theorem corner_apply (g : S16384.Idx → BitVec 32) (hg : ∀ i, (g i).toNat < 8192) (vals : FVec Ideal S16384x1x32 .f32)
    (grid : FVec Ideal S262144x32 .f32) (Z Y X : Fin 64) (c : Fin 32) :
    corner dx dy dz (cell p) (fraction p) (place g) vals grid (ix2 (row Z Y X) c)
      = (grid (ix2 (row Z Y X) c) + ∑ n : Fin 16384, ∑ s : Fin 64,
          share1 (g (ix1 n) = 0#32) (p (ix3 n s (0 : Fin 3))) (p (ix3 n s (1 : Fin 3))) (p (ix3 n s (2 : Fin 3)))
            (vals (ix3 n (0 : Fin 1) c)) X.val Y.val Z.val dx dy dz : EReal) := by
  unfold corner
  rw [scatter_apply, sum_samples]
  exact congrArg _ (Finset.sum_congr rfl fun n _ => Finset.sum_congr rfl fun s _ =>
    added_apply dx dy dz p n s g hg vals Z Y X c)

end Corner

/-- A voxel of the first volume at the end: the sum over all samples of the three hats' product times the value, for the
    rays of that volume. -/
theorem splat_apply (dir orig : FVec Ideal S16384x3 .f32) (near far : FVec Ideal S16384 .f32)
    (enc : FVec Ideal S16384x32 .f32) (g : S16384.Idx → BitVec 32) (hg : ∀ i, (g i).toNat < 8192) (Z Y X : Fin 64)
    (c : Fin 32) :
    splat dir orig near far enc g (ix2 (row Z Y X) c)
      = (∑ n : Fin 16384, ∑ s : Fin 64,
          hat (points dir orig near far (ix3 n s (2 : Fin 3))) Z.val * hat (points dir orig near far (ix3 n s (1 : Fin 3))) Y.val
            * (hat (points dir orig near far (ix3 n s (0 : Fin 3))) X.val
              * if g (ix1 n) = 0#32 then values enc near far (ix3 n (0 : Fin 1) c) else 0) : EReal) := by
  unfold splat
  simp only [corner_apply _ _ _ _ g hg]
  have z : (zeros (F := Ideal) (ix2 (row Z Y X) c) : EReal) = 0 := Ideal.ofBits_zero_f32
  rw [z, zero_add]
  simp only [← Finset.sum_add_distrib]
  exact Finset.sum_congr rfl fun n _ => Finset.sum_congr rfl fun s _ =>
    eight_corners _ _ _ _ _ X.val Y.val Z.val X.isLt Y.isLt Z.isLt

end Cert.Splat

end
-- ==== Proof.Reference.lean ====
/- What the reference computes, over the extended reals: at every voxel, the sum over all samples of the three hats' product
   times the value, for the rays of the volume. -/
module

public import proofs.«01_k».proof.Proof.Opening
public import proofs.«01_k».proof.Proof.Gen.ReferenceIdeal.Run
public import Idealize.ShloMosaic.Lib.IdealHost
public import Idealize.ShloMosaic.Lib.WordCmp
public import Idealize.ShloMosaic.Lib.ValueIdx
public import Idealize.ShloMosaic.Lib.Pipeline.Value
public import Idealize.ShloMosaic.Lib.TwoAxisContraction

@[expose] public section

set_option maxRecDepth 16384

noncomputable section

namespace Cert.Splat.Reference

open Idealize.ShloMosaic Idealize.ShloMosaic.TcCoe Idealize.ShloMosaic.ValueIdx
open Cert.ReferenceIdeal Cert.ReferenceIdeal.Gen
open scoped BigOperators

/-- One number for every ray, repeated for its samples. -/
def perRay (v : FVec Ideal S16384 .f32) : FVec Ideal S16384x64 .f32 :=
  broadcastInDim S16384x64 ![0, 1] bcast_S16384x1_S16384x64_0_1 (broadcastInDim S16384x1 ![0] bcast_S16384_S16384x1_0 v)

/-- One number for every sample. -/
def const2 (b : BitVec 32) : FVec Ideal S16384x64 .f32 := broadcastInDim S16384x64 ![] bcast_S_S16384x64 (constant S_ .f32 b)

/-- One number for every sample and voxel of an axis. -/
def const3 (b : BitVec 32) : FVec Ideal S16384x64x64 .f32 :=
  broadcastInDim S16384x64x64 ![] bcast_S_S16384x64x64 (constant S_ .f32 b)

/-- One coordinate of every sample, from that coordinate of the rays' directions and origins. -/
def coord (d o : FVec Ideal S16384 .f32) (near far : FVec Ideal S16384 .f32) : FVec Ideal S16384x64 .f32 :=
  mulf (mulf (addf (addf (perRay o) (mulf (perRay d) (times near far))) (const2 0x3F800000#32)) (const2 0x3F000000#32))
    (const2 0x427C0000#32)

/-- The hat of every sample at every voxel of one axis. -/
def hats (p : FVec Ideal S16384x64 .f32) : FVec Ideal S16384x64x64 .f32 :=
  maximumf (subf (const3 0x3F800000#32)
    (Host.absf (subf
      (broadcastInDim S16384x64x64 ![0, 1, 2] bcast_S16384x64x1_S16384x64x64_0_1_2
        (broadcastInDim S16384x64x1 ![0, 1] bcast_S16384x64_S16384x64x1_0_1 p))
      (broadcastInDim S16384x64x64 ![0, 1, 2] bcast_S1x1x64_S16384x64x64_0_1_2
        (broadcastInDim S1x1x64 ![2] bcast_S64_S1x1x64_2 (sitofp .f32 (iotaInDim S64 32 0)))))))
    (const3 0x00000000#32)

/-- The rays' values, zero for the rays of another volume. -/
def chosen (near far : FVec Ideal S16384 .f32) (enc : FVec Ideal S16384x32 .f32) (g : S16384.Idx → BitVec 32) :
    FVec Ideal S16384x32 .f32 :=
  select
    (broadcastInDim S16384x32 ![0, 1] bcast_S16384x1_S16384x32_0_1
      (broadcastInDim S16384x1 ![0] bcast_S16384_S16384x1_0
        (cmpi .eq g (broadcastInDim S16384 ![] bcast_S_S16384 (constantI S_ 32 0#32)))))
    (mulf enc (broadcastInDim S16384x32 ![0, 1] bcast_S16384x1_S16384x32_0_1 (broadcastInDim S16384x1 ![0] bcast_S16384_S16384x1_0
      (Host.divf (subf far near) (broadcastInDim S16384 ![] bcast_S_S16384 (constant S_ .f32 0x42800000#32))))))
    (broadcastInDim S16384x32 ![] bcast_S_S16384x32 (id (constant S_ .f32 0x00000000#32)))

/-- The volume: the contraction, over rays and samples, of the hats' and values' products. -/
def volume (hx hy hz : FVec Ideal S16384x64x64 .f32) (v : FVec Ideal S16384x32 .f32) : FVec Ideal S64x64x64x32 .f32 :=
  Host.dotGeneral dot_S16384x64x64x64_S16384x64x64x32_S64x64x64x32_01_01_23_23_n_n (some .fp32)
    (mulf
      (broadcastInDim S16384x64x64x64 ![0, 1, 2, 3] bcast_S16384x64x64x1_S16384x64x64x64_0_1_2_3
        (broadcastInDim S16384x64x64x1 ![0, 1, 2] bcast_S16384x64x64_S16384x64x64x1_0_1_2 hz))
      (broadcastInDim S16384x64x64x64 ![0, 1, 2, 3] bcast_S16384x64x1x64_S16384x64x64x64_0_1_2_3
        (broadcastInDim S16384x64x1x64 ![0, 1, 3] bcast_S16384x64x64_S16384x64x1x64_0_1_3 hy)))
    (mulf
      (broadcastInDim S16384x64x64x32 ![0, 1, 2, 3] bcast_S16384x64x64x1_S16384x64x64x32_0_1_2_3
        (broadcastInDim S16384x64x64x1 ![0, 1, 2] bcast_S16384x64x64_S16384x64x64x1_0_1_2 hx))
      (broadcastInDim S16384x64x64x32 ![0, 1, 2, 3] bcast_S16384x1x1x32_S16384x64x64x32_0_1_2_3
        (broadcastInDim S16384x1x1x32 ![0, 3] bcast_S16384x32_S16384x1x1x32_0_3 v)))

/-- The first coordinate of a list of points. -/
def axis0 (x : FVec Ideal S16384x3 .f32) : FVec Ideal S16384 .f32 :=
  shapeCast S16384 (extractStridedSlice S16384x1 ![0, 0] x slices_S16384x3_S16384x1_0_0) shapeCasts_S16384x1_S16384

/-- The second coordinate of a list of points. -/
def axis1 (x : FVec Ideal S16384x3 .f32) : FVec Ideal S16384 .f32 :=
  shapeCast S16384 (extractStridedSlice S16384x1 ![0, 1] x slices_S16384x3_S16384x1_0_1) shapeCasts_S16384x1_S16384

/-- The third coordinate of a list of points. -/
def axis2 (x : FVec Ideal S16384x3 .f32) : FVec Ideal S16384 .f32 :=
  shapeCast S16384 (extractStridedSlice S16384x1 ![0, 2] x slices_S16384x3_S16384x1_0_2) shapeCasts_S16384x1_S16384

/-- The reference's array, of its six arguments. -/
def result (dir orig : FVec Ideal S16384x3 .f32) (near far : FVec Ideal S16384 .f32) (enc : FVec Ideal S16384x32 .f32)
    (g : S16384.Idx → BitVec 32) : FVec Ideal S1x64x64x64x32 .f32 :=
  broadcastInDim S1x64x64x64x32 ![1, 2, 3, 4] bcast_S64x64x64x32_S1x64x64x64x32_1_2_3_4
    (volume (hats (coord (axis0 dir) (axis0 orig) near far)) (hats (coord (axis1 dir) (axis1 orig) near far))
      (hats (coord (axis2 dir) (axis2 orig) near far)) (chosen near far enc g))

/-- The reference program's returned array is that one. -/
theorem res_eq (m : (ℓ : Loc nD τ sig) → Buf (Elt Ideal) ℓ) (c : Dev nD) :
    Cert.ReferenceIdeal.Value.res_main_v115 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

section Reads

variable (n : Fin 16384) (s : Fin 64)

/-- A ray's entry of a one-wide column. -/
theorem narrow_apply (y : FVec Ideal S16384x1 .f32) :
    shapeCast S16384 y shapeCasts_S16384x1_S16384 (ix1 n) = y (ix2 n (0 : Fin 1)) := by
  refine shapeCast_apply y shapeCasts_S16384x1_S16384 (ix1 n) (ix2 n (0 : Fin 1)) ?_
  rw [Shape.rowMajor_val_one, Shape.rowMajor_val_two]
  show n.val * 1 + 0 = n.val
  omega

/-- An entry of the first coordinates. -/
theorem axis0_apply (x : FVec Ideal S16384x3 .f32) : axis0 x (ix1 n) = x (ix2 n (0 : Fin 3)) := by
  refine (narrow_apply n _).trans (congrArg x ?_)
  funext a
  match a with
  | ⟨0, _⟩ => exact Fin.ext (Nat.zero_add _)
  | ⟨1, _⟩ => rfl

/-- An entry of the second coordinates. -/
theorem axis1_apply (x : FVec Ideal S16384x3 .f32) : axis1 x (ix1 n) = x (ix2 n (1 : Fin 3)) := by
  refine (narrow_apply n _).trans (congrArg x ?_)
  funext a
  match a with
  | ⟨0, _⟩ => exact Fin.ext (Nat.zero_add _)
  | ⟨1, _⟩ => rfl

/-- An entry of the third coordinates. -/
theorem axis2_apply (x : FVec Ideal S16384x3 .f32) : axis2 x (ix1 n) = x (ix2 n (2 : Fin 3)) := by
  refine (narrow_apply n _).trans (congrArg x ?_)
  funext a
  match a with
  | ⟨0, _⟩ => exact Fin.ext (Nat.zero_add _)
  | ⟨1, _⟩ => rfl

/-- A ray's number, at one of its samples. -/
theorem perRay_apply (v : FVec Ideal S16384 .f32) : perRay v (ix2 n s) = v (ix1 n) := by
  refine congrArg v ?_
  funext a
  match a with
  | ⟨0, _⟩ => rfl

/-- A coordinate of a sample, as the kernel has it. -/
theorem points_apply (dir orig : FVec Ideal S16384x3 .f32) (near far : FVec Ideal S16384 .f32) (a : Fin 3) :
    (points dir orig near far (ix3 n s a) : EReal)
      = (orig (ix2 n a) + dir (ix2 n a) * times near far (ix2 n s) + Ideal.ofBits .f32 0x3F800000#32)
          * Ideal.ofBits .f32 0x3F000000#32 * Ideal.ofBits .f32 0x427C0000#32 := by
  have e (x : FVec Ideal S16384x3 .f32) :
      broadcastInDim Cert.KernelIdeal.S16384x64x3 ![0, 1, 2] Cert.KernelIdeal.Gen.bcast_S16384x1x3_S16384x64x3_0_1_2
        (broadcastInDim Cert.KernelIdeal.S16384x1x3 ![0, 2] Cert.KernelIdeal.Gen.bcast_S16384x3_S16384x1x3_0_2 x) (ix3 n s a)
        = x (ix2 n a) := by
    refine congrArg x ?_
    funext b
    match b with
    | ⟨0, _⟩ => rfl
    | ⟨1, _⟩ => rfl
  have t : broadcastInDim Cert.KernelIdeal.S16384x64x3 ![0, 1, 2] Cert.KernelIdeal.Gen.bcast_S16384x64x1_S16384x64x3_0_1_2
        (broadcastInDim Cert.KernelIdeal.S16384x64x1 ![0, 1] Cert.KernelIdeal.Gen.bcast_S16384x64_S16384x64x1_0_1
          (times near far)) (ix3 n s a) = times near far (ix2 n s) := by
    refine congrArg (times near far) ?_
    funext b
    match b with
    | ⟨0, _⟩ => rfl
    | ⟨1, _⟩ => rfl
  rw [← e orig, ← e dir, ← t]
  rfl

/-- A coordinate of a sample, as the reference has it. -/
theorem coord_apply (d o near far : FVec Ideal S16384 .f32) :
    (coord d o near far (ix2 n s) : EReal)
      = (o (ix1 n) + d (ix1 n) * times near far (ix2 n s) + Ideal.ofBits .f32 0x3F800000#32)
          * Ideal.ofBits .f32 0x3F000000#32 * Ideal.ofBits .f32 0x427C0000#32 := by
  rw [← perRay_apply n s o, ← perRay_apply n s d]
  rfl

/-- The hat of a sample at a voxel of an axis. -/
theorem hats_apply (p : FVec Ideal S16384x64 .f32) (x : Fin 64) :
    (hats p (ix3 n s x) : EReal) = hat (p (ix2 n s)) x.val := by
  have e : broadcastInDim S16384x64x64 ![0, 1, 2] bcast_S16384x64x1_S16384x64x64_0_1_2
      (broadcastInDim S16384x64x1 ![0, 1] bcast_S16384x64_S16384x64x1_0_1 p) (ix3 n s x) = p (ix2 n s) := by
    refine congrArg p ?_
    funext b
    match b with
    | ⟨0, _⟩ => rfl
    | ⟨1, _⟩ => rfl
  have w : (((BitVec.ofNat 32 x.val).toInt : ℝ) : EReal) = ((x.val : ℝ) : EReal) := by
    rw [WordCmp.toInt_ofNat_of_lt (by omega), Int.cast_natCast]
  unfold hat
  rw [← e, ← w, ← Ideal.ofBits_one_f32, ← Ideal.ofBits_zero_f32]
  rfl

/-- The value of a ray in a channel, zero for a ray of another volume. -/
theorem chosen_apply (near far : FVec Ideal S16384 .f32) (enc : FVec Ideal S16384x32 .f32) (g : S16384.Idx → BitVec 32)
    (c : Fin 32) :
    (chosen near far enc g (ix2 n c) : EReal) = if g (ix1 n) = 0#32 then values enc near far (ix3 n (0 : Fin 1) c) else 0 := by
  have e {α : Type} (v : S16384.Idx → α) : broadcastInDim S16384x32 ![0, 1] bcast_S16384x1_S16384x32_0_1
      (broadcastInDim S16384x1 ![0] bcast_S16384_S16384x1_0 v) (ix2 n c) = v (ix1 n) := by
    refine congrArg v ?_
    funext b
    match b with
    | ⟨0, _⟩ => rfl
  have k (v : FVec Ideal S16384 .f32) : broadcastInDim Cert.KernelIdeal.S16384x1x32 ![0, 1, 2]
      Cert.KernelIdeal.Gen.bcast_S16384x1x1_S16384x1x32_0_1_2
      (broadcastInDim Cert.KernelIdeal.S16384x1x1 ![0] Cert.KernelIdeal.Gen.bcast_S16384_S16384x1x1_0 v) (ix3 n (0 : Fin 1) c)
      = v (ix1 n) := by
    refine congrArg v ?_
    funext b
    match b with
    | ⟨0, _⟩ => rfl
  have l : broadcastInDim Cert.KernelIdeal.S16384x1x32 ![0, 2] Cert.KernelIdeal.Gen.bcast_S16384x32_S16384x1x32_0_2 enc
      (ix3 n (0 : Fin 1) c) = enc (ix2 n c) := by
    refine congrArg enc ?_
    funext b
    match b with
    | ⟨0, _⟩ => rfl
    | ⟨1, _⟩ => rfl
  let w : FVec Ideal S16384 .f32 :=
    Host.divf (subf far near) (broadcastInDim S16384 ![] bcast_S_S16384 (constant S_ .f32 0x42800000#32))
  let o : S16384.Idx → BitVec 1 := cmpi .eq g (broadcastInDim S16384 ![] bcast_S_S16384 (constantI S_ 32 0#32))
  show (Scalar.select (broadcastInDim S16384x32 ![0, 1] bcast_S16384x1_S16384x32_0_1
      (broadcastInDim S16384x1 ![0] bcast_S16384_S16384x1_0 o) (ix2 n c))
    (enc (ix2 n c) * broadcastInDim S16384x32 ![0, 1] bcast_S16384x1_S16384x32_0_1
      (broadcastInDim S16384x1 ![0] bcast_S16384_S16384x1_0 w) (ix2 n c) : EReal) (Ideal.ofBits .f32 0x00000000#32) : EReal)
    = if g (ix1 n) = 0#32 then (broadcastInDim Cert.KernelIdeal.S16384x1x32 ![0, 2]
        Cert.KernelIdeal.Gen.bcast_S16384x32_S16384x1x32_0_2 enc (ix3 n (0 : Fin 1) c)
      * broadcastInDim Cert.KernelIdeal.S16384x1x32 ![0, 1, 2] Cert.KernelIdeal.Gen.bcast_S16384x1x1_S16384x1x32_0_1_2
          (broadcastInDim Cert.KernelIdeal.S16384x1x1 ![0] Cert.KernelIdeal.Gen.bcast_S16384_S16384x1x1_0 w)
          (ix3 n (0 : Fin 1) c) : EReal) else 0
  rw [e, e, k, l, Ideal.ofBits_zero_f32]
  show (Scalar.select (IntOp.cmpi .eq (g (ix1 n)) 0#32) (enc (ix2 n c) * w (ix1 n) : EReal) 0 : EReal)
    = if g (ix1 n) = 0#32 then (enc (ix2 n c) * w (ix1 n) : EReal) else 0
  rw [WordCmp.cmpi_eq_eq]
  by_cases h : g (ix1 n) = 0#32
  · simp only [h, decide_true, if_true]; rfl
  · simp only [h, decide_false, if_false]; rfl

/-- A voxel of the volume. -/
theorem volume_apply (hx hy hz : FVec Ideal S16384x64x64 .f32) (v : FVec Ideal S16384x32 .f32) (Z Y X : Fin 64)
    (c : Fin 32) :
    (volume hx hy hz v (ix4 Z Y X c) : EReal) = ∑ n : Fin 16384, ∑ s : Fin 64,
      hz (ix3 n s Z) * hy (ix3 n s Y) * (hx (ix3 n s X) * v (ix2 n c)) := by
  unfold volume
  refine (Ideal.dotGeneral_apply _ _ _ _ _ _).trans ?_
  rw [sum_contr2 dot_S16384x64x64x64_S16384x64x64x32_S64x64x64x32_01_01_23_23_n_n 16384 64 rfl rfl rfl]
  refine Finset.sum_congr rfl fun n _ => Finset.sum_congr rfl fun s _ => ?_
  refine congrArg₂ (fun a b : EReal => a * b)
    (congrArg₂ (fun a b : EReal => a * b) (congrArg hz ?_) (congrArg hy ?_))
    (congrArg₂ (fun a b : EReal => a * b) (congrArg hx ?_) (congrArg v ?_)) <;> funext b
  · match b with
    | ⟨0, _⟩ => rfl
    | ⟨1, _⟩ => rfl
    | ⟨2, _⟩ => rfl
  · match b with
    | ⟨0, _⟩ => rfl
    | ⟨1, _⟩ => rfl
    | ⟨2, _⟩ => rfl
  · match b with
    | ⟨0, _⟩ => rfl
    | ⟨1, _⟩ => rfl
    | ⟨2, _⟩ => rfl
  · match b with
    | ⟨0, _⟩ => rfl
    | ⟨1, _⟩ => rfl

end Reads

/-- A voxel of the reference's array. -/
theorem result_apply (dir orig : FVec Ideal S16384x3 .f32) (near far : FVec Ideal S16384 .f32)
    (enc : FVec Ideal S16384x32 .f32) (g : S16384.Idx → BitVec 32) (B : Fin 1) (Z Y X : Fin 64) (c : Fin 32) :
    result dir orig near far enc g (ix5 B Z Y X c)
      = (∑ n : Fin 16384, ∑ s : Fin 64,
          hat (points dir orig near far (ix3 n s (2 : Fin 3))) Z.val * hat (points dir orig near far (ix3 n s (1 : Fin 3))) Y.val
            * (hat (points dir orig near far (ix3 n s (0 : Fin 3))) X.val
              * if g (ix1 n) = 0#32 then values enc near far (ix3 n (0 : Fin 1) c) else 0) : EReal) := by
  have e (x : FVec Ideal S64x64x64x32 .f32) : broadcastInDim S1x64x64x64x32 ![1, 2, 3, 4]
      bcast_S64x64x64x32_S1x64x64x64x32_1_2_3_4 x (ix5 B Z Y X c) = x (ix4 Z Y X c) := by
    refine congrArg x ?_
    funext b
    match b with
    | ⟨0, _⟩ => rfl
    | ⟨1, _⟩ => rfl
    | ⟨2, _⟩ => rfl
    | ⟨3, _⟩ => rfl
  unfold result
  rw [e]
  refine (volume_apply _ _ _ _ Z Y X c).trans (Finset.sum_congr rfl fun n _ => Finset.sum_congr rfl fun s _ => ?_)
  rw [hats_apply, hats_apply, hats_apply, coord_apply, coord_apply, coord_apply, axis0_apply, axis0_apply, axis1_apply,
    axis1_apply, axis2_apply, axis2_apply, chosen_apply, points_apply, points_apply, points_apply]

end Cert.Splat.Reference

end
-- ==== Proof.Equation.lean ====
/- The kernel's array is the reference's, over the extended reals, where each ray names a volume that a 32-bit row number
   reaches. -/
module

public import proofs.«01_k».proof.Proof.CornerSum
public import proofs.«01_k».proof.Proof.Reference
public import proofs.«01_k».proof.Proof.Gen.Pre_indexes_fit
public import Idealize.ShloMosaic.Lib.ReduceAll

@[expose] public section

set_option maxRecDepth 16384

noncomputable section

namespace Cert.Splat

open Idealize.ShloMosaic Idealize.ShloMosaic.TcCoe Idealize.ShloMosaic.ValueIdx
open Cert.KernelIdeal Cert.KernelIdeal.Gen

/-- The precondition, read: every ray's place in the batch is a word below 8192. -/
theorem places_fit (dir orig : FVec Ideal S16384x3 .f32) (near far : FVec Ideal S16384 .f32)
    (enc : FVec Ideal S16384x32 .f32) (g : S16384.Idx → BitVec 32)
    (h : Cert.Pre_indexes_fit.fn (F := Ideal) dir orig near far enc g = fun _ => 1#1) (i : S16384.Idx) :
    (g i).toNat < 8192 := by
  have : Subsingleton Cert.Pre_indexes_fit.S_.Idx := ⟨fun a b => funext fun k => k.elim0⟩
  have hi : IntOp.andi (IntOp.cmpi .sge (g i) 0#32) (IntOp.cmpi .slt (g i) 8192#32) = 1#1 :=
    Host.reduce_andi_all _ _ _ _ ix0 (congrFun h ix0) i
  have h0 : (0#32).toInt = 0 := rfl
  have h1 : (8192#32).toInt = 8192 := rfl
  rw [WordCmp.cmpi_sge_eq, WordCmp.cmpi_slt_eq, WordCmp.andi_ofBool, WordCmp.ofBool_eq_one_iff, h0, h1] at hi
  simp only [Bool.and_eq_true, decide_eq_true_eq] at hi
  have hv := (g i).toInt_eq_toNat_cond
  split at hv <;> omega

/-- The kernel's array, cut into the batch's volumes, is the reference's array. -/
theorem splat_eq_result (dir orig : FVec Ideal S16384x3 .f32) (near far : FVec Ideal S16384 .f32)
    (enc : FVec Ideal S16384x32 .f32) (g : S16384.Idx → BitVec 32) (hg : ∀ i, (g i).toNat < 8192) :
    shapeCast S1x64x64x64x32 (splat dir orig near far enc g) shapeCasts_S262144x32_S1x64x64x64x32
      = Reference.result dir orig near far enc g := by
  funext i
  obtain ⟨B, Z, Y, X, c, rfl⟩ : ∃ (B : Fin 1) (Z Y X : Fin 64) (c : Fin 32), i = ix5 B Z Y X c :=
    ⟨i 0, i 1, i 2, i 3, i 4, eq_ix5 i⟩
  rw [Reference.result_apply, ← splat_apply dir orig near far enc g hg Z Y X c]
  refine shapeCast_apply _ shapeCasts_S262144x32_S1x64x64x64x32 (ix5 B Z Y X c) (ix2 (row Z Y X) c) ?_
  rw [Shape.rowMajor_val_two, Shape.rowMajor_val_five]
  show ((Z.val * 64 + Y.val) * 64 + X.val) * 32 + c.val
    = (((B.val * 64 + Z.val) * 64 + Y.val) * 64 + X.val) * 32 + c.val
  have := B.isLt
  omega

end Cert.Splat

end
-- ==== Proof.Lines.lean ====
module

public import proofs.«01_k».proof.Proof.Opening
public import proofs.«01_k».proof.Proof.Gen.Lines.Run

@[expose] public section

set_option maxRecDepth 16384

noncomputable section

namespace Cert.Splat.Lines

open Idealize.ShloMosaic Idealize.ShloMosaic.TcCoe
open Cert.Lines Cert.Lines.Gen

variable {F : FTy → Type} [FloatOps F]

/-- The lines run to the end, leave the grid in their result and leave their arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v576)
        = shapeCast S1x64x64x64x32 (splat (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
          shapeCasts_S262144x32_S1x64x64x64x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.Lines.Value.run m ρ)

end Cert.Splat.Lines

end
-- ==== Proof.lean ====
/- The proof of the certificate's claims. The kernel's run is in `Proof/Launch.lean` (idealized) and `Proof/LaunchBits.lean`
   (as printed), what it leaves in `Proof/Results.lean`, the equation with the reference in `Proof/Equation.lean`, and the
   run of reference.py's own lines in `Proof/Lines.lean`. Here each claim is put together from them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Lines
public import proofs.«01_k».proof.Proof.Gen.Pre_indexes_fit
public import proofs.«01_k».proof.Proof.Results
public import proofs.«01_k».proof.Proof.Equation
public import proofs.«01_k».proof.Proof.Lines
public import Idealize.ShloMosaic.Adequacy
public import Idealize.ShloMosaic.Init

@[expose] public section

noncomputable section

namespace Cert.Proof

open Idealize.ShloMosaic Idealize.ShloMosaic.TcCoe Idealize.SL.Sem

/-- The printed kernel ends, with its arguments as they were and its counters at zero. -/
theorem kernel_frame : Cert.quiescent_Kernel := fun m ρ _ =>
  (θ_run Cert.Kernel.defs _ _).mono (fun _ h => ⟨fun c => (h.1 c).2, h.2⟩) (Cert.Splat.Kernel.run (F := Bits) m ρ)

/-- The idealized kernel ends, with its arguments as they were and its counters at zero. -/
theorem ideal_frame : Cert.quiescent_KernelIdeal := fun m ρ _ =>
  (θ_run Cert.KernelIdeal.defs _ _).mono (fun _ h => ⟨fun c => (h.1 c).2, h.2⟩) (Cert.Splat.KernelIdeal.run (F := Ideal) m ρ)

/-- So it does from the memories whose indexes fit. -/
theorem ideal_frame_pre : Cert.quiescent_KernelIdeal_pre_indexes_fit := fun m ρ _ => ideal_frame m ρ trivial

/-- The reference ends, with its arguments as they were and its counters at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does from the memories whose indexes fit. -/
theorem reference_frame_pre : Cert.quiescent_ReferenceIdeal_pre_indexes_fit := fun m ρ _ => reference_frame m ρ trivial

/-- reference.py's own lines end, with their arguments as they were and their counters at zero. -/
theorem lines_frame : Cert.quiescent_Lines := fun m ρ _ =>
  (θ_run Cert.Lines.defs _ _).mono (fun r h => ⟨fun c => (h c).2, sem_eq_zero_of_no_sems (by decide) r.2⟩)
    (Cert.Splat.Lines.run (F := Bits) m ρ)

/-- Over the extended reals the idealized kernel and the reference leave the same array. -/
theorem same_array : Cert.algebraic_KernelIdeal_ReferenceIdeal_pre_indexes_fit := by
  intro m ρ m' ρ' hp hargs
  refine ⟨fun c => shapeCast Cert.KernelIdeal.S1x64x64x64x32
      (Cert.Splat.KernelIdeal.entryAt m c Cert.KernelIdeal.main_v575) Cert.KernelIdeal.Gen.shapeCasts_S262144x32_S1x64x64x64x32,
    (θ_run Cert.KernelIdeal.defs _ _).mono (fun _ h => h.1) (Cert.Splat.KernelIdeal.run (F := Ideal) m ρ),
    (θ_run Cert.ReferenceIdeal.defs _ _).mono (fun r h c => ⟨(h c).1.trans ?_, (h c).2⟩)
      (Cert.ReferenceIdeal.Value.run (F := Ideal) m' ρ')⟩
  obtain ⟨e0, e1, e2, e3, e4, e5⟩ := hargs c
  rw [Cert.Splat.Reference.res_eq, e0, e1, e2, e3, e4, e5]
  exact ((congrArg (fun x => shapeCast Cert.KernelIdeal.S1x64x64x64x32 x
      Cert.KernelIdeal.Gen.shapeCasts_S262144x32_S1x64x64x64x32) (Cert.Splat.KernelIdeal.grid_eq m c)).trans
    (Cert.Splat.splat_eq_result _ _ _ _ _ _ (Cert.Splat.places_fit _ _ _ _ _ _ (hp c)))).symm

/-- On the words the printed kernel and reference.py's own lines leave the same array. -/
theorem same_words : Cert.bitexact_Kernel_Lines := by
  intro m ρ m' ρ' _ hargs
  refine ⟨fun c => shapeCast Cert.Kernel.S1x64x64x64x32
      (Cert.Splat.Kernel.entryAt m c Cert.Kernel.main_v575) Cert.Kernel.Gen.shapeCasts_S262144x32_S1x64x64x64x32,
    (θ_run Cert.Kernel.defs _ _).mono (fun _ h => h.1) (Cert.Splat.Kernel.run (F := Bits) m ρ),
    (θ_run Cert.Lines.defs _ _).mono (fun r h c => ⟨(h c).1.trans ?_, (h c).2⟩) (Cert.Splat.Lines.run (F := Bits) m' ρ')⟩
  obtain ⟨e0, e1, e2, e3, e4, e5⟩ := hargs c
  rw [e0, e1, e2, e3, e4, e5]
  exact (congrArg (fun x => shapeCast Cert.Kernel.S1x64x64x64x32 x
    Cert.Kernel.Gen.shapeCasts_S262144x32_S1x64x64x64x32) (Cert.Splat.Kernel.grid_eq m c)).symm

/-- Every claim of the certificate. -/
theorem claim : Cert.Claim :=
  ⟨Cert.Kernel.Gen.facts, Cert.KernelIdeal.Gen.facts, Cert.ReferenceIdeal.Gen.facts, Cert.Lines.Gen.facts,
    Cert.Pre_indexes_fit.Gen.facts, kernel_frame, ideal_frame, ideal_frame_pre, reference_frame, reference_frame_pre,
    lines_frame, trivial, same_array, same_words⟩

end Cert.Proof

end
